-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S2x512x2048 : Shape := ⟨3, ![2, 512, 2048]⟩
abbrev S8x128 : Shape := ⟨2, ![8, 128]⟩
abbrev S8 : Shape := ⟨1, ![8]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S128 : Shape := ⟨1, ![128]⟩
abbrev S1x128 : Shape := ⟨2, ![1, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S4096x512, .bf16⟩
  | .local _ .vmem, ⟨3, _⟩ => ⟨S8x512x512, .bf16⟩
  | .local _ .vmem, ⟨4, _⟩ => ⟨S2x512x2048, .f32⟩
  | .local _ .vmem, ⟨5, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.addi v2 c1_i32_3
  let c8_i32_4 : BitVec 32 := 8#32
  let v11 : BitVec 32 := Scalar.remsi v10 c8_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v14 : BitVec 32 := Scalar.addi v2 c2_i32
  let c8_i32_7 : BitVec 32 := 8#32
  let v15 : BitVec 32 := Scalar.remsi v14 c8_i32_7
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c8_i32_11 : BitVec 32 := 8#32
  let v19 : BitVec 32 := Scalar.remsi v18 c8_i32_11
  let c1_i32_13 : BitVec 32 := 1#32
  let v20 : BitVec 32 := Scalar.muli v19 c1_i32_13
  let v21 : BitVec 32 := Scalar.addi c0_i32_14 v20
  v21.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.addi v2 c4_i32
  let c8_i32_15 : BitVec 32 := 8#32
  let v23 : BitVec 32 := Scalar.remsi v22 c8_i32_15
  let c1_i32_17 : BitVec 32 := 1#32
  let v24 : BitVec 32 := Scalar.muli v23 c1_i32_17
  let v25 : BitVec 32 := Scalar.addi c0_i32_18 v24
  v25.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.addi v2 c5_i32
  let c8_i32_19 : BitVec 32 := 8#32
  let v27 : BitVec 32 := Scalar.remsi v26 c8_i32_19
  let c1_i32_21 : BitVec 32 := 1#32
  let v28 : BitVec 32 := Scalar.muli v27 c1_i32_21
  let v29 : BitVec 32 := Scalar.addi c0_i32_22 v28
  v29.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v30 : BitVec 32 := Scalar.addi v2 c6_i32
  let c8_i32_23 : BitVec 32 := 8#32
  let v31 : BitVec 32 := Scalar.remsi v30 c8_i32_23
  let c1_i32_25 : BitVec 32 := 1#32
  let v32 : BitVec 32 := Scalar.muli v31 c1_i32_25
  let v33 : BitVec 32 := Scalar.addi c0_i32_26 v32
  v33.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v34 : BitVec 32 := Scalar.addi v2 c7_i32
  let c8_i32_27 : BitVec 32 := 8#32
  let v35 : BitVec 32 := Scalar.remsi v34 c8_i32_27
  let c1_i32_29 : BitVec 32 := 1#32
  let v36 : BitVec 32 := Scalar.muli v35 c1_i32_29
  let v37 : BitVec 32 := Scalar.addi c0_i32_30 v36
  v37.toNat
def k0_off1 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.addi v2 c1_i32_32
  let c8_i32_33 : BitVec 32 := 8#32
  let v39 : BitVec 32 := Scalar.remsi v38 c8_i32_33
  let c512_i32 : BitVec 32 := 512#32
  let v40 : BitVec 32 := Scalar.muli v39 c512_i32
  let c0_i32_41 : BitVec 32 := 0#32
  ![v40.toNat, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v38 : BitVec 32 := Scalar.addi v2 c1_i32_32
  let c8_i32_33 : BitVec 32 := 8#32
  let v39 : BitVec 32 := Scalar.remsi v38 c8_i32_33
  let c1_i32_37 : BitVec 32 := 1#32
  let v41 : BitVec 32 := Scalar.muli v39 c1_i32_37
  let v42 : BitVec 32 := Scalar.addi c0_i32_38 v41
  v42.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v50 : BitVec 32 := Scalar.addi v2 c2_i32_42
  let c8_i32_43 : BitVec 32 := 8#32
  let v51 : BitVec 32 := Scalar.remsi v50 c8_i32_43
  let c1_i32_48 : BitVec 32 := 1#32
  let v53 : BitVec 32 := Scalar.muli v51 c1_i32_48
  let v54 : BitVec 32 := Scalar.addi c0_i32_49 v53
  v54.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v62 : BitVec 32 := Scalar.addi v2 c3_i32_53
  let c8_i32_54 : BitVec 32 := 8#32
  let v63 : BitVec 32 := Scalar.remsi v62 c8_i32_54
  let c1_i32_59 : BitVec 32 := 1#32
  let v65 : BitVec 32 := Scalar.muli v63 c1_i32_59
  let v66 : BitVec 32 := Scalar.addi c0_i32_60 v65
  v66.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v74 : BitVec 32 := Scalar.addi v2 c4_i32_64
  let c8_i32_65 : BitVec 32 := 8#32
  let v75 : BitVec 32 := Scalar.remsi v74 c8_i32_65
  let c1_i32_70 : BitVec 32 := 1#32
  let v77 : BitVec 32 := Scalar.muli v75 c1_i32_70
  let v78 : BitVec 32 := Scalar.addi c0_i32_71 v77
  v78.toNat
def k0_dev12 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_75 : BitVec 32 := 5#32
  let v86 : BitVec 32 := Scalar.addi v2 c5_i32_75
  let c8_i32_76 : BitVec 32 := 8#32
  let v87 : BitVec 32 := Scalar.remsi v86 c8_i32_76
  let c1_i32_81 : BitVec 32 := 1#32
  let v89 : BitVec 32 := Scalar.muli v87 c1_i32_81
  let v90 : BitVec 32 := Scalar.addi c0_i32_82 v89
  v90.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v98 : BitVec 32 := Scalar.addi v2 c6_i32_86
  let c8_i32_87 : BitVec 32 := 8#32
  let v99 : BitVec 32 := Scalar.remsi v98 c8_i32_87
  let c1_i32_92 : BitVec 32 := 1#32
  let v101 : BitVec 32 := Scalar.muli v99 c1_i32_92
  let v102 : BitVec 32 := Scalar.addi c0_i32_93 v101
  v102.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v110 : BitVec 32 := Scalar.addi v2 c7_i32_97
  let c8_i32_98 : BitVec 32 := 8#32
  let v111 : BitVec 32 := Scalar.remsi v110 c8_i32_98
  let c1_i32_103 : BitVec 32 := 1#32
  let v113 : BitVec 32 := Scalar.muli v111 c1_i32_103
  let v114 : BitVec 32 := Scalar.addi c0_i32_104 v113
  v114.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_108 : BitVec 32 := 512#32
  let v122 : BitVec 32 := Scalar.muli v2 c512_i32_108
  let c0_i32_113 : BitVec 32 := 0#32
  ![v122.toNat, 0]
def k0_off3 (d0 : Dev nD) (c1_i32_114 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.subi v2 c1_i32_114
  let c8_i32_115 : BitVec 32 := 8#32
  let v130 : BitVec 32 := Scalar.addi v129 c8_i32_115
  let c8_i32_116 : BitVec 32 := 8#32
  let v131 : BitVec 32 := Scalar.remsi v130 c8_i32_116
  let c512_i32_117 : BitVec 32 := 512#32
  let v132 : BitVec 32 := Scalar.muli v131 c512_i32_117
  let c0_i32_122 : BitVec 32 := 0#32
  ![v132.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_129 : BitVec 32 := 512#32
  let v144 : BitVec 32 := Scalar.muli v2 c512_i32_129
  let v145 : Index := Scalar.indexCast v144
  let c0_130 : Index := 0#32
  ![v145.toNat, 0]
def k0_dev15 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_360 : BitVec 32 := 1#32
  let v368 : BitVec 32 := Scalar.addi v2 c1_i32_360
  let c8_i32_361 : BitVec 32 := 8#32
  let v369 : BitVec 32 := Scalar.remsi v368 c8_i32_361
  let c1_i32_366 : BitVec 32 := 1#32
  let v370 : BitVec 32 := Scalar.muli v369 c1_i32_366
  let v371 : BitVec 32 := Scalar.addi c0_i32_367 v370
  v371.toNat
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_370 : BitVec 32 := 2#32
  let v380 : BitVec 32 := Scalar.addi v2 c2_i32_370
  let c8_i32_371 : BitVec 32 := 8#32
  let v381 : BitVec 32 := Scalar.remsi v380 c8_i32_371
  let c1_i32_376 : BitVec 32 := 1#32
  let v382 : BitVec 32 := Scalar.muli v381 c1_i32_376
  let v383 : BitVec 32 := Scalar.addi c0_i32_377 v382
  v383.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_380 : BitVec 32 := 3#32
  let v392 : BitVec 32 := Scalar.addi v2 c3_i32_380
  let c8_i32_381 : BitVec 32 := 8#32
  let v393 : BitVec 32 := Scalar.remsi v392 c8_i32_381
  let c1_i32_386 : BitVec 32 := 1#32
  let v394 : BitVec 32 := Scalar.muli v393 c1_i32_386
  let v395 : BitVec 32 := Scalar.addi c0_i32_387 v394
  v395.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_390 : BitVec 32 := 4#32
  let v404 : BitVec 32 := Scalar.addi v2 c4_i32_390
  let c8_i32_391 : BitVec 32 := 8#32
  let v405 : BitVec 32 := Scalar.remsi v404 c8_i32_391
  let c1_i32_396 : BitVec 32 := 1#32
  let v406 : BitVec 32 := Scalar.muli v405 c1_i32_396
  let v407 : BitVec 32 := Scalar.addi c0_i32_397 v406
  v407.toNat
def k0_dev19 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_400 : BitVec 32 := 5#32
  let v416 : BitVec 32 := Scalar.addi v2 c5_i32_400
  let c8_i32_401 : BitVec 32 := 8#32
  let v417 : BitVec 32 := Scalar.remsi v416 c8_i32_401
  let c1_i32_406 : BitVec 32 := 1#32
  let v418 : BitVec 32 := Scalar.muli v417 c1_i32_406
  let v419 : BitVec 32 := Scalar.addi c0_i32_407 v418
  v419.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_410 : BitVec 32 := 6#32
  let v428 : BitVec 32 := Scalar.addi v2 c6_i32_410
  let c8_i32_411 : BitVec 32 := 8#32
  let v429 : BitVec 32 := Scalar.remsi v428 c8_i32_411
  let c1_i32_416 : BitVec 32 := 1#32
  let v430 : BitVec 32 := Scalar.muli v429 c1_i32_416
  let v431 : BitVec 32 := Scalar.addi c0_i32_417 v430
  v431.toNat
def k0_dev21 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_420 : BitVec 32 := 7#32
  let v440 : BitVec 32 := Scalar.addi v2 c7_i32_420
  let c8_i32_421 : BitVec 32 := 8#32
  let v441 : BitVec 32 := Scalar.remsi v440 c8_i32_421
  let c1_i32_426 : BitVec 32 := 1#32
  let v442 : BitVec 32 := Scalar.muli v441 c1_i32_426
  let v443 : BitVec 32 := Scalar.addi c0_i32_427 v442
  v443.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Common.lean ====
/-
# `k` — the quantised all-to-all product on eight devices: names, cells, values, schedule

Device `c` holds a column block of `x` and the whole of `w_mat`. It sends row block `c + d` of its (narrowed) column
block to device `c + d`, which receives it in slot `d`; so slot `d` of `c` holds the block device `c - d` sent. The
product over the eight blocks is summed in the order `c, c - 1, …, c - 7`; then the row maxima go round the same way.

The protocol: before the first transfer every device signals the barrier semaphore of the seven others and waits for
seven. The signal of device `c + d` to `c` hands `c` slot `d` and row `d` of device `c + d`: the places `c` writes to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ShareLeaves
public import Idealize.ShloMosaic.Lib.Ring
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds' and the local transfers' counters -/

/-- The resource that counts the rounds of the semaphore protocol. -/
abbrev UB : Type := URounds (GSem nD τ sig) (Fin 8)
/-- All the resources the proof uses: the pipeline's rounds, the protocol's rounds and counters. -/
abbrev UU : Type := UR sig nD τ × (UB × Counters)

local notation "𝕄" => MT nD τ sig Unit (Elt F) ℕ UU ℕ

/-- Where the pipeline's rounds sit among the resources. -/
abbrev EP : Emb (UR sig nD τ) (MT nD τ sig Unit (Elt F) ℕ UU ℕ) := embL
/-- Where the protocol's rounds sit among the resources. -/
abbrev ER : Emb UB (MT nD τ sig Unit (Elt F) ℕ UU ℕ) := (Emb.inl : Emb UB (UB × Counters)).trans embR
/-- Where the counters sit among the resources. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The eight devices in a circle -/

set_option backward.proofsInPublic true in
/-- The device `d` places after `c`. -/
def peer (c : Dev nD) (d : Fin 8) : Dev nD := ⟨(c.val + d.val) % 8, Nat.mod_lt _ (by decide)⟩
set_option backward.proofsInPublic true in
/-- The device `d` places before `c`. -/
def back (c : Dev nD) (d : Fin 8) : Dev nD := ⟨(c.val + 8 - d.val) % 8, Nat.mod_lt _ (by decide)⟩
set_option backward.proofsInPublic true in
/-- The distance the other way round. -/
def neg (d : Fin 8) : Fin 8 := ⟨(8 - d.val) % 8, Nat.mod_lt _ (by decide)⟩

/-- Going back over a distance and then forward over it returns to the start. -/
theorem peer_back (c : Dev nD) (d : Fin 8) : peer (back c d) d = c := by revert c d; decide
/-- Going forward over a distance and then back over it returns to the start. -/
theorem back_peer (c : Dev nD) (d : Fin 8) : back (peer c d) d = c := by revert c d; decide
/-- Going forward over a distance and then over the opposite distance returns to the start. -/
theorem peer_neg (c : Dev nD) (d : Fin 8) : peer (peer c d) (neg d) = c := by revert c d; decide
/-- The device at distance zero is the device itself. -/
theorem peer_zero (c : Dev nD) : peer c 0 = c := by revert c; decide
/-- The device at distance zero backwards is the device itself. -/
theorem back_zero (c : Dev nD) : back c 0 = c := by revert c; decide
/-- The opposite of the opposite distance is the distance. -/
theorem neg_neg' (d : Fin 8) : neg (neg d) = d := by revert d; decide
/-- The opposite of a nonzero distance is nonzero. -/
theorem neg_ne_zero (d : Fin 8) (h : d ≠ 0) : neg d ≠ 0 := by revert d; decide
/-- Going forward over the opposite distance is going back. -/
theorem neg_back (c : Dev nD) (d : Fin 8) : peer c (neg d) = back c d := by revert c d; decide

/-- The circle turned by `d`, as a bijection of the devices. -/
def turn (d : Fin 8) : Dev nD ≃ Dev nD := ⟨(peer · d), (back · d), (back_peer · d), (peer_back · d)⟩

/-! ## Semaphores and cells -/

/-- The runtime's barrier semaphore. -/
abbrev barS : Sem sig := (SemArray.scalar (sig.barrier 0 rfl) : Sems sig S_).sem

set_option backward.proofsInPublic true in
/-- The four families of transfer semaphores — block send, block receive, maxima send, maxima receive —, eight each. -/
def xsem (f : Fin 4) (j : Fin 8) : DmaSem sig := ⟨2 + 8 * f.val + j.val, by show _ < 36; omega⟩

set_option backward.proofsInPublic true in
/-- The two semaphores of the copies of blocks of `w_mat`. -/
def wsem (s : Fin 2) : DmaSem sig := ⟨34 + s.val, by show _ < 36; omega⟩

/-- A device's barrier semaphore. -/
abbrev barCell (c : Dev nD) : GSem nD τ sig := ((c : Thread nD τ), .reg barS)
/-- A device's transfer semaphore of family `f` for distance `j`. -/
abbrev xcell (f : Fin 4) (c : Dev nD) (j : Fin 8) : GSem nD τ sig := ((c : Thread nD τ), .dma (xsem f j))

/-- A device's cells: the barrier, and the four families. -/
abbrev CI : Type := Option (Fin 4 × Fin 8)
/-- The semaphore an index of the protocol stands for: the barrier, or one of a transfer family. -/
abbrev csem : CI → SemLoc sig
  | none => .reg barS
  | some (f, j) => .dma (xsem f j)
/-- The semaphore of the protocol at a device and an index. -/
abbrev kcell (ck : Dev nD × CI) : GSem nD τ sig := ((ck.1 : Thread nD τ), csem ck.2)

/-! ## Buffers, and the parts of them the kernel names -/

/-- The staged block of the first operand. -/
abbrev xM : Memref sig .tc .vmem S4096x512 .f32 := Memref.whole cc0_stg0_0
/-- The second operand, in main memory. -/
abbrev wM : Memref sig .tc .hbm S4096x2048 .f32 := Memref.whole main_arg1
/-- The staged block of the result. -/
abbrev oM : Memref sig .tc .vmem S512x2048 .f32 := Memref.whole cc0_stg1_0
/-- The rounded copy of the first operand's block, from which blocks are sent. -/
abbrev xsM : Memref sig .tc .vmem S4096x512 .bf16 := Memref.whole cc0_scratch0
/-- The eight slots which receive blocks. -/
abbrev xgM : Memref sig .tc .vmem S8x512x512 .bf16 := Memref.whole cc0_scratch1
/-- The two buffers for row blocks of the second operand. -/
abbrev wbM : Memref sig .tc .vmem S2x512x2048 .f32 := Memref.whole cc0_scratch2
/-- The eight rows of maxima, one for each device. -/
abbrev amM : Memref sig .tc .vmem S8x128 .f32 := Memref.whole cc0_scratch3

/-- Each row block lies within the rounded copy. -/
theorem inbX (j : Fin 8) : ∀ a, (![512 * j.val, 0] : Fin 2 → Nat) a + S512x512.size a ≤ S4096x512.size a := by revert j; decide
/-- Each row block lies within the second operand. -/
theorem inbW (j : Fin 8) : ∀ a, (![512 * j.val, 0] : Fin 2 → Nat) a + S512x2048.size a ≤ S4096x2048.size a := by revert j; decide
/-- Each slot lies within the receiving buffer. -/
theorem inbS (j : Fin 8) : ∀ a, (![j.val, 0, 0] : Fin 3 → Nat) a + S1x512x512.size a ≤ S8x512x512.size a := by revert j; decide
/-- Each of the two buffers lies within the pair. -/
theorem inbB (j : Fin 2) : ∀ a, (![j.val, 0, 0] : Fin 3 → Nat) a + S1x512x2048.size a ≤ S2x512x2048.size a := by revert j; decide
/-- Each row lies within the buffer of maxima. -/
theorem inbR (j : Fin 8) : ∀ a, (![j.val, 0] : Fin 2 → Nat) a + S1x128.size a ≤ S8x128.size a := by revert j; decide

/-- Row block `j` of the narrowed column block. -/
abbrev xBlkM (j : Fin 8) : Memref sig .tc .vmem S512x512 .bf16 :=
  xsM.slice (Rect.unit (s := S4096x512) ![512 * j.val, 0] S512x512.size (inbX j)) (fun _ => rfl)
/-- Row block `j` of `w_mat`. -/
abbrev wBlkM (j : Fin 8) : Memref sig .tc .hbm S512x2048 .f32 :=
  wM.slice (Rect.unit (s := S4096x2048) ![512 * j.val, 0] S512x2048.size (inbW j)) (fun _ => rfl)
/-- Slot `j` of the received blocks. -/
abbrev slotM (j : Fin 8) : Memref sig .tc .vmem S512x512 .bf16 :=
  (xgM.slice (Rect.unit (s := S8x512x512) ![j.val, 0, 0] S1x512x512.size (inbS j)) (fun _ => rfl)).squeeze S512x512 squeezes_S1x512x512_S512x512
/-- Slot `s` of the two blocks of `w_mat` held at a time. -/
abbrev wSlM (s : Fin 2) : Memref sig .tc .vmem S512x2048 .f32 :=
  (wbM.slice (Rect.unit (s := S2x512x2048) ![s.val, 0, 0] S1x512x2048.size (inbB s)) (fun _ => rfl)).squeeze S512x2048 squeezes_S1x512x2048_S512x2048
/-- Row `j` of the maxima. -/
abbrev rowM (j : Fin 8) : Memref sig .tc .vmem S128 .f32 :=
  (amM.slice (Rect.unit (s := S8x128) ![j.val, 0] S1x128.size (inbR j)) (fun _ => rfl)).squeeze S128 squeezes_S1x128_S128

/-- The credit of one block's transfer, of one row of maxima, of one block of `w_mat`. -/
@[irreducible] def NX : ℕ := (slotM 0).view.dmaCredit
@[irreducible] def NA : ℕ := (rowM 0).view.dmaCredit
@[irreducible] def NW : ℕ := (wSlM 0).view.dmaCredit
theorem NX_pos : 0 < NX := by unfold NX; exact View.dmaCredit_pos _ (by decide)
/-- A row of maxima gives a positive credit. -/
theorem NA_pos : 0 < NA := by unfold NA; exact View.dmaCredit_pos _ (by decide)
/-- A row block of the second operand gives a positive credit. -/
theorem NW_pos : 0 < NW := by unfold NW; exact View.dmaCredit_pos _ (by decide)
/-- Each slot gives the credit of a block. -/
theorem slot_credit (j : Fin 8) : (slotM j).view.dmaCredit = NX := by unfold NX; rfl
/-- Each row of the maxima gives the credit of a row. -/
theorem row_credit (j : Fin 8) : (rowM j).view.dmaCredit = NA := by unfold NA; rfl
/-- Each of the two buffers gives the credit of a row block of the second operand. -/
theorem wSl_credit (s : Fin 2) : (wSlM s).view.dmaCredit = NW := by unfold NW; rfl
/-- Each block of the rounded copy gives the credit of a block. -/
theorem xBlk_credit (s : Fin 8) : (xBlkM s).view.dmaCredit = NX := by unfold NX; revert s; decide

/-! ## Values -/

/-- Device `c`'s column block of `x`, as staged. -/
def xstg (c : Dev nD) : Vec F S4096x512 .f32 :=
  (win0_0.blk (0 : Fin 1)).view.read (Elt F) ((s₀ m ρ).mem ((c : Thread nD τ).loc main_arg0))
/-- The same, narrowed. -/
def xs (c : Dev nD) : Vec F S4096x512 .bf16 := k0_pay1 (xstg m ρ c)
/-- Row block `j` of device `c`'s narrowed column block. -/
def xblk (c : Dev nD) (j : Fin 8) : Vec F S512x512 .bf16 := (xBlkM j).view.read (Elt F) (xs m ρ c)
/-- Device `c`'s copy of `w_mat`. -/
def wfull (c : Dev nD) : Vec F S4096x2048 .f32 := m ((c : Thread nD τ).loc main_arg1)
/-- Row block `j` of it. -/
def wblk (c : Dev nD) (j : Fin 8) : Vec F S512x2048 .f32 := (wBlkM j).view.read (Elt F) (wfull m c)

/-- One block's contribution to the product. -/
def stepY (y : FVec F S512x2048 .f32) (a : FVec F S512x512 .bf16) (w : FVec F S512x2048 .f32) : FVec F S512x2048 .f32 :=
  addf y (matmul dot_S512x512_S512x2048_S512x2048_1_0_0_1_n_n none a w (constant S512x2048 .f32 0x00000000#32))

/-- The product so far, after the first `n` blocks (`c, c - 1, …`). -/
def Y (c : Dev nD) : ℕ → FVec F S512x2048 .f32
  | 0 => k0_pay2
  | n + 1 => stepY (Y c n) (xblk m ρ (back c (Fin.ofNat 8 n)) c) (wblk m c (back c (Fin.ofNat 8 n)))

/-- The largest magnitude of a block, repeated along a row. -/
def amrow (y : FVec F S512x2048 .f32) : FVec F S1x128 .f32 :=
  k0_pay12 (multiReduction .maximumf [1, 2] S1 (shapeCast S1x512x2048 (absf y) shapeCasts_S512x2048_S1x512x2048) 0xFF800000#32
    reduces_S1x512x2048_S1 (.inl rfl) rfl)
/-- Device `c`'s row of maxima. -/
def amv (c : Dev nD) : FVec F S1x128 .f32 := amrow (Y m ρ c 8)
set_option backward.proofsInPublic true in
/-- The received blocks on device `c`: slot `d` holds what device `c - d` sent. -/
def XG (c : Dev nD) : Vec F S8x512x512 .bf16 := fun i => xblk m ρ (back c (i 0)) c (fun a => i a.succ)
set_option backward.proofsInPublic true in
/-- The maxima on device `c`: row `d` is device `c - d`'s. -/
def AM (c : Dev nD) : Vec F S8x128 .f32 := fun i => amv m ρ (back c (i 0)) (Fin.cons (0 : Fin 1) (fun a => i a.succ))
set_option backward.proofsInPublic true in
/-- Block `j` of `w_mat`, in either slot. -/
def WB (c : Dev nD) (j : Fin 8) : Vec F S2x512x2048 .f32 := fun i => wblk m c j (fun a => i a.succ)
/-- Device `c`'s block of the result. -/
def outv (c : Dev nD) : Vec F S512x2048 .f32 := k0_pay15 (Y m ρ c 8) (k0_pay13 (AM m ρ c)) (k0_pay14 (AM m ρ c))

/-! ## The pieces of memory the protocol passes round -/

/-- Device `c` owns block `j` of its rounded copy, with its final contents. -/
def xsPts (c : Dev nD) (j : Fin 8) : sProp 𝕄 := (xBlkM j).view.loc (c : Thread nD τ) ↦[(xBlkM j).view.set]{fullShare} xs m ρ c
/-- Device `c` owns its slot `j`, with the contents of `f` there. -/
def slotPts (c : Dev nD) (j : Fin 8) (f : Vec F S8x512x512 .bf16) : sProp 𝕄 := (slotM j).view.loc (c : Thread nD τ) ↦[(slotM j).view.set]{fullShare} f
/-- Device `c` owns a share `q` of its row `j` of maxima, with the contents of `f` there. -/
def rowPts (c : Dev nD) (j : Fin 8) (q : PosShare TreeShare) (f : Vec F S8x128 .f32) : sProp 𝕄 := (rowM j).view.loc (c : Thread nD τ) ↦[(rowM j).view.set]{q} f
/-- Device `c` owns its buffer `s` for the second operand, with the contents of `f` there. -/
def wslPts (c : Dev nD) (s : Fin 2) (f : Vec F S2x512x2048 .f32) : sProp 𝕄 := (wSlM s).view.loc (c : Thread nD τ) ↦[(wSlM s).view.set]{fullShare} f

/-- One of eight equal shares. -/
def eighth (d : Fin 8) : PosShare TreeShare := ShareLeaves.leaf 3 fullShare d

omit [FloatOps F] in
/-- Owning a slot may be stored in the protocol. -/
instance slotPts_storable (c j f) : BI.Storable (upEmb : UEmb _ 𝕄) (slotPts (F := F) c j f) := by unfold slotPts; infer_instance
omit [FloatOps F] in
/-- Owning a row of maxima may be stored in the protocol. -/
instance rowPts_storable (c j q f) : BI.Storable (upEmb : UEmb _ 𝕄) (rowPts (F := F) c j q f) := by unfold rowPts; infer_instance
/-- Owning a block of the rounded copy may be stored in the protocol. -/
instance xsPts_storable (c j) : BI.Storable (upEmb : UEmb _ 𝕄) (xsPts (F := F) m ρ c j) := by unfold xsPts; infer_instance

/-! ## The schedule -/

/-- What a barrier signal over distance `d` hands the device it reaches: slot `d` and row `d` of its sender. -/
def barPay (e : Dev nD) (d : Fin 8) : sProp 𝕄 := iprop((∃ f, slotPts (peer e d) d f) ∗ ∃ f, rowPts (peer e d) d fullShare f)
/-- What a transfer cell hands its owner: the block sent back, the block received, the share of the maxima row back,
    the row of maxima received. -/
def famPay (f : ℕ) (c : Dev nD) (d : Fin 8) : sProp 𝕄 :=
  if f = 0 then xsPts m ρ c (peer c d) else if f = 1 then slotPts c d (XG m ρ c)
  else if f = 2 then rowPts c 0 (eighth d) (AM m ρ c) else rowPts c d fullShare (AM m ρ c)

/-- What a transfer hands over may be stored in the protocol. -/
instance famPay_storable (f : ℕ) (c d) : BI.Storable (upEmb : UEmb _ 𝕄) (famPay (F := F) m ρ f c d) := by
  unfold famPay; (repeat' split) <;> infer_instance
omit [FloatOps F] in
/-- What a barrier signal hands over may be stored in the protocol. -/
instance barPay_storable (e d) : BI.Storable (upEmb : UEmb _ 𝕄) (barPay (F := F) e d) := by unfold barPay; infer_instance

/-- A cell's duties: the barrier's seven, one at a transfer cell of nonzero distance. -/
def dutiesOf : SemLoc sig → Finset (Fin 8)
  | .reg _ => Finset.univ.erase 0
  | .dma q => if 2 ≤ q.val ∧ q.val < 34 ∧ (q.val - 2) % 8 ≠ 0 then {0} else ∅
/-- By how much one duty raises a semaphore. -/
def amountAt : SemLoc sig → ℕ
  | .reg _ => 1
  | .dma q => if q.val < 18 then NX else NA
set_option backward.proofsInPublic true in
/-- What one duty on a semaphore hands over. -/
def payAt (c : Dev nD) (d : Fin 8) : SemLoc sig → sProp 𝕄
  | .reg _ => barPay c d
  | .dma q => famPay m ρ ((q.val - 2) / 8) c ⟨(q.val - 2) % 8, Nat.mod_lt _ (by decide)⟩

/-- One round: every barrier duty one unit, every transfer duty its credit. -/
def Rd : Rounds.Schedule (GSem nD τ sig) (Fin 8) 𝕄 where
  duties g r := if r = 0 ∧ g.1.2 = .tc then dutiesOf g.2 else ∅
  unitless _ := False
  amount g _ _ := amountAt g.2
  payload g _ d := payAt m ρ g.1.1 d g.2
  amount_pos g _ _ _ := by
    rcases g with ⟨_, s | q⟩
    · exact Nat.one_pos
    · show 0 < if q.val < 18 then NX else NA
      split
      · exact NX_pos
      · exact NA_pos

/-- Whatever the schedule hands over may be stored in the protocol. -/
instance Rd_payload_storable (g : GSem nD τ sig) (r : ℕ) (d : Fin 8) :
    BI.Storable (upEmb : UEmb _ 𝕄) ((Rd (F := F) m ρ).payload g r d) := by
  show BI.Storable upEmb (payAt m ρ g.1.1 d g.2)
  rcases g with ⟨_, s | q⟩
  · unfold payAt; infer_instance
  · unfold payAt; infer_instance

section Sched
variable (c : Dev nD)

/-- The barrier has one duty for each nonzero distance. -/
theorem duties_bar : (Rd (F := F) m ρ).duties (barCell c) 0 = Finset.univ.erase 0 := by dsimp only [Rd]; exact if_pos ⟨rfl, rfl⟩
/-- A transfer semaphore for a nonzero distance has one duty. -/
theorem duties_x (f : Fin 4) (d : Fin 8) (h : d ≠ 0) : (Rd (F := F) m ρ).duties (xcell f c d) 0 = {0} := by
  dsimp only [Rd]
  refine (if_pos ⟨rfl, rfl⟩).trans ?_
  dsimp only [dutiesOf]
  exact if_pos (by revert f d; decide)
/-- A transfer semaphore for distance zero has no duty. -/
theorem duties_x0 (f : Fin 4) : (Rd (F := F) m ρ).duties (xcell f c 0) 0 = ∅ := by
  dsimp only [Rd]
  refine (if_pos ⟨rfl, rfl⟩).trans ?_
  dsimp only [dutiesOf]
  exact if_neg (by revert f; decide)
/-- After the first round no semaphore has a duty. -/
theorem duties_later (g : GSem nD τ sig) : ∀ r, 1 ≤ r → (Rd (F := F) m ρ).duties g r = ∅ :=
  fun r hr => if_neg fun h => by omega

/-- Each duty raises the barrier by one. -/
theorem amount_bar (d : Fin 8) : (Rd (F := F) m ρ).amount (barCell c) 0 d = 1 := rfl
/-- The credit of a family's transfers. -/
def NF (f : Fin 4) : ℕ := if f.val < 2 then NX else NA
/-- Each transfer raises its semaphore by the credit of its family. -/
theorem amount_x (f : Fin 4) (j d : Fin 8) : (Rd (F := F) m ρ).amount (xcell f c j) 0 d = NF f := by
  show (if (xsem f j).val < 18 then NX else NA) = if f.val < 2 then NX else NA
  have : ((xsem f j).val < 18) = (f.val < 2) := by revert f j; decide
  simp only [this]

/-- The barrier expects seven in all. -/
theorem expect_bar : (Rd (F := F) m ρ).expect (barCell c) 0 = 7 := by
  unfold Schedule.expect Schedule.amountOf
  rw [duties_bar, Finset.sum_congr rfl fun d _ => amount_bar m ρ c d, Finset.sum_const]; decide
/-- A transfer semaphore for a nonzero distance expects the credit of one transfer of its family. -/
theorem expect_x (f : Fin 4) (d : Fin 8) (h : d ≠ 0) : (Rd (F := F) m ρ).expect (xcell f c d) 0 = NF f := by
  unfold Schedule.expect Schedule.amountOf; rw [duties_x m ρ c f d h, Finset.sum_singleton, amount_x]

/-- What a duty on the barrier hands over. -/
theorem payload_bar (d : Fin 8) : (Rd (F := F) m ρ).payload (barCell c) 0 d = barPay c d := rfl
/-- What a duty on a transfer semaphore hands over. -/
theorem payload_x (f : Fin 4) (j d : Fin 8) : (Rd (F := F) m ρ).payload (xcell f c j) 0 d = famPay m ρ f.val c j := by
  have h1 : ((xsem f j).val - 2) / 8 = f.val := by revert f j; decide
  have h2 : (⟨((xsem f j).val - 2) % 8, Nat.mod_lt _ (by decide)⟩ : Fin 8) = j := by revert f j; decide
  show famPay m ρ (((xsem f j).val - 2) / 8) c ⟨((xsem f j).val - 2) % 8, _⟩ = _
  rw [h1, h2]

/-- Seven things, one per nonzero distance. -/
abbrev seven (Φ : Fin 8 → sProp 𝕄) : sProp 𝕄 := iprop(Φ 1 ∗ Φ 2 ∗ Φ 3 ∗ Φ 4 ∗ Φ 5 ∗ Φ 6 ∗ Φ 7)

omit [FloatOps F] in
/-- A product over the nonzero distances, written out. -/
theorem bigSep_seven (Φ : Fin 8 → sProp 𝕄) : bigSep (Finset.univ.erase (0 : Fin 8)) Φ = seven Φ := by
  have h : (Finset.univ.erase (0 : Fin 8)) = [1, 2, 3, 4, 5, 6, 7].toFinset := by decide
  rw [bigSep_eq_bigSepL_of_eq _ h (by decide)]
  simp only [bigSepL_cons_cons, bigSepL_singleton]
  rfl

/-- The whole round of the barrier cell: what the seven others hand over. -/
theorem rest_bar : bigSep ((Rd (F := F) m ρ).duties (barCell c) 0 \ ∅) (fun d => (Rd (F := F) m ρ).payload (barCell c) 0 d) = seven (barPay c) := by
  rw [Finset.sdiff_empty, duties_bar, bigSep_seven]
  rfl
/-- What a transfer semaphore still has to hand over before it is waited on is its whole payload. -/
theorem rest_x (f : Fin 4) (d : Fin 8) (h : d ≠ 0) :
    bigSep ((Rd (F := F) m ρ).duties (xcell f c d) 0 \ ∅) (fun d' => (Rd (F := F) m ρ).payload (xcell f c d) 0 d') = famPay m ρ f.val c d := by
  rw [Finset.sdiff_empty, duties_x m ρ c f d h, bigSep_singleton, payload_x]

end Sched

/-! ## What each core owes at launch; the levels -/

/-- A list of debts: units owed to cells. -/
def owedL : List (GSem nD τ sig × ℕ) → CellTallies nD τ sig Unit
  | [] => 0
  | (g, n) :: l => owedL l + tallyAt g () n

/-- Everything device `c` owes, in the order it pays. -/
def debts (c : Dev nD) : List (GSem nD τ sig × ℕ) :=
  [(barCell (peer c 1), 1), (barCell (peer c 2), 1), (barCell (peer c 3), 1), (barCell (peer c 4), 1), (barCell (peer c 5), 1), (barCell (peer c 6), 1),
   (barCell (peer c 7), 1),
   (xcell 1 (peer c 1) 1, NX), (xcell 1 (peer c 2) 2, NX), (xcell 1 (peer c 3) 3, NX), (xcell 1 (peer c 4) 4, NX), (xcell 1 (peer c 5) 5, NX),
   (xcell 1 (peer c 6) 6, NX), (xcell 1 (peer c 7) 7, NX),
   (xcell 3 (peer c 1) 1, NA), (xcell 3 (peer c 2) 2, NA), (xcell 3 (peer c 3) 3, NA), (xcell 3 (peer c 4) 4, NA), (xcell 3 (peer c 5) 5, NA),
   (xcell 3 (peer c 6) 6, NA), (xcell 3 (peer c 7) 7, NA)]

/-- What is left after the first `n` payments. -/
def O (c : Dev nD) (n : ℕ) : CellTallies nD τ sig Unit := owedL ((debts c).drop n)

/-- Each semaphore of a tensor core has one kind of debt; others have none. -/
def L (g : GSem nD τ sig) : Finset Unit := if g.1.2 = .tc then {()} else ∅
/-- A semaphore's level: barrier 1, block receive 2, maxima receive 3, everything else 0. -/
def lvS : SemLoc sig → ℕ
  | .reg _ => 1
  | .dma q => if 10 ≤ q.val ∧ q.val < 18 then 2 else if 26 ≤ q.val ∧ q.val < 34 then 3 else 0
/-- The level of a debt is that of its semaphore. -/
def lv (g : GSem nD τ sig) (_ : Unit) : ℕ := lvS g.2

/-- A semaphore off the tensor cores has no kind of debt. -/
theorem L_of_ne (g : GSem nD τ sig) (h : g.1.2 ≠ .tc) : L g = ∅ := if_neg h
/-- A semaphore on a tensor core has exactly one kind of debt. -/
theorem L_tc (c : Dev nD) (sm : SemLoc sig) : L ((c : Thread nD τ), sm) = {()} := if_pos rfl

/-- A semaphore to which a list of debts owes something is in the list. -/
theorem owedL_pos {l : List (GSem nD τ sig × ℕ)} {g : GSem nD τ sig} {u : Unit} (h : 0 < owedL l g u) : g ∈ l.map Prod.fst := by
  induction l with
  | nil => exact absurd h (Nat.lt_irrefl 0)
  | cons p l ih =>
    obtain ⟨g', n⟩ := p
    unfold owedL at h
    rw [Pi.add_apply, Finsupp.add_apply, tallyAt_apply] at h
    by_cases hg : g = g'
    · exact List.mem_cons.mpr (.inl hg)
    · rw [if_neg (fun h' => hg h'.1), Nat.add_zero] at h
      exact List.mem_cons_of_mem _ (ih h)

/-- The levels of the cells still owed after `n` payments. -/
def debtLv (n : ℕ) : List ℕ := ([1, 1, 1, 1, 1, 1, 1, 2, 2, 2, 2, 2, 2, 2, 3, 3, 3, 3, 3, 3, 3] : List ℕ).drop n

/-- The levels of a device's debts, in order, are the listed ones. -/
theorem debts_lv (c : Dev nD) : (debts c).map (fun p => lvS p.1.2) = debtLv 0 := rfl
/-- All of a device's debts are to semaphores on tensor cores. -/
theorem debts_tc (c : Dev nD) : ∀ p ∈ debts c, p.1.1.2 = .tc := by
  intro p hp
  unfold debts at hp
  simp only [List.mem_cons, List.not_mem_nil, or_false] at hp
  rcases hp with h | h | h | h | h | h | h | h | h | h | h | h | h | h | h | h | h | h | h | h | h <;> rw [h]

omit [FloatOps F] in
/-- A device may wait at a cell below every cell it still owes. -/
theorem mayWait_O (c : Dev nD) (n : ℕ) (sm : SemLoc sig) (h : ∀ x ∈ debtLv n, lvS sm < x) :
    (levAts L lv : sProp 𝕄) ⊢ MayWait (c : Thread nD τ) sm () (O c n) := by
  have hmem : ∀ g u, 0 < O c n g u → ∃ p ∈ (debts c).drop n, p.1 = g := fun g u hg => by
    obtain ⟨p, hp, e⟩ := List.mem_map.mp (owedL_pos hg); exact ⟨p, hp, e⟩
  refine MayOwe.of_cut (L := L) (lev := lv) (lvS sm) (fun p hp => by rw [Finset.mem_singleton.mp hp, L_tc]; exact Finset.mem_singleton_self _)
    (fun g u hg => ?_) (fun p hp => by rw [Finset.mem_singleton.mp hp]; exact Nat.le_refl _) (fun g u hg => ?_)
  · obtain ⟨p, hp, rfl⟩ := hmem g u hg
    unfold L; rw [if_pos (debts_tc c p (List.mem_of_mem_drop hp))]; exact Finset.mem_singleton_self _
  · obtain ⟨p, hp, rfl⟩ := hmem g u hg
    refine h _ ?_
    have e : debtLv n = ((debts c).drop n).map (fun p => lvS p.1.2) := by
      rw [List.map_drop, debts_lv]; rfl
    rw [e]
    exact List.mem_map.mpr ⟨p, hp, rfl⟩

end Cert.KProof
-- ==== Proof.Geometry.lean ====
/-
# `k`: the buffers cut into the parts the transfers move, and what each part reads

Each buffer is cut along its leading axis into equal parts that are disjoint and cover it; a part's read of the
contents named in `Common` is the block (row) those contents hold there.
-/
module

public import proofs.«01_k».proof.Proof.Common

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Element sets of the parts -/

/-- A slot is a rectangle of the receiving buffer. -/
theorem slot_set (j : Fin 8) : (slotM j).view.set = (Rect.unit (s := S8x512x512) ![j.val, 0, 0] S1x512x512.size (inbS j)).set :=
  (View.set_reshape _ _).trans (View.set_slice_whole cc0_scratch1 _)
/-- A row of maxima is a rectangle of its buffer. -/
theorem row_set (j : Fin 8) : (rowM j).view.set = (Rect.unit (s := S8x128) ![j.val, 0] S1x128.size (inbR j)).set :=
  (View.set_reshape _ _).trans (View.set_slice_whole cc0_scratch3 _)
/-- A buffer for the second operand is a rectangle of the pair. -/
theorem wsl_set (s : Fin 2) : (wSlM s).view.set = (Rect.unit (s := S2x512x2048) ![s.val, 0, 0] S1x512x2048.size (inbB s)).set :=
  (View.set_reshape _ _).trans (View.set_slice_whole cc0_scratch2 _)
/-- A block is a rectangle of the rounded copy. -/
theorem xblk_set (j : Fin 8) : (xBlkM j).view.set = (Rect.unit (s := S4096x512) ![512 * j.val, 0] S512x512.size (inbX j)).set :=
  View.set_slice_whole cc0_scratch0 _

/-- Different slots do not meet. -/
theorem slot_disj (b b' : Fin 8) (h : b ≠ b') : Disjoint (slotM b).view.set (slotM b').view.set := by
  rw [slot_set, slot_set]
  exact lead_disjoint (s := S8x512x512) 0 1 (fun j : Fin 8 => ![j.val, 0, 0]) S1x512x512.size inbS (by decide) rfl b b' h
/-- The slots make up the receiving buffer. -/
theorem slot_cover : Finset.biUnion (β := S8x512x512.Idx) Finset.univ (fun b : Fin 8 => (slotM b).view.set) = Finset.univ := by
  rw [Finset.biUnion_congr rfl (fun b _ => slot_set b)]
  exact lead_cover (s := S8x512x512) 0 1 (fun j : Fin 8 => ![j.val, 0, 0]) S1x512x512.size inbS (by decide) (by decide) rfl (by decide) rfl
/-- Different rows of maxima do not meet. -/
theorem row_disj (b b' : Fin 8) (h : b ≠ b') : Disjoint (rowM b).view.set (rowM b').view.set := by
  rw [row_set, row_set]
  exact lead_disjoint (s := S8x128) 0 1 (fun j : Fin 8 => ![j.val, 0]) S1x128.size inbR (by decide) rfl b b' h
/-- The rows make up the buffer of maxima. -/
theorem row_cover : Finset.biUnion (β := S8x128.Idx) Finset.univ (fun b : Fin 8 => (rowM b).view.set) = Finset.univ := by
  rw [Finset.biUnion_congr rfl (fun b _ => row_set b)]
  exact lead_cover (s := S8x128) 0 1 (fun j : Fin 8 => ![j.val, 0]) S1x128.size inbR (by decide) (by decide) rfl (by decide) rfl
/-- The two buffers for the second operand do not meet. -/
theorem wsl_disj (b b' : Fin 2) (h : b ≠ b') : Disjoint (wSlM b).view.set (wSlM b').view.set := by
  rw [wsl_set, wsl_set]
  exact lead_disjoint (s := S2x512x2048) 0 1 (fun j : Fin 2 => ![j.val, 0, 0]) S1x512x2048.size inbB (by decide) rfl b b' h
/-- The two buffers make up the pair. -/
theorem wsl_cover : Finset.biUnion (β := S2x512x2048.Idx) Finset.univ (fun b : Fin 2 => (wSlM b).view.set) = Finset.univ := by
  rw [Finset.biUnion_congr rfl (fun b _ => wsl_set b)]
  exact lead_cover (s := S2x512x2048) 0 1 (fun j : Fin 2 => ![j.val, 0, 0]) S1x512x2048.size inbB (by decide) (by decide) rfl (by decide) rfl
/-- Different blocks of the rounded copy do not meet. -/
theorem xblk_disj (b b' : Fin 8) (h : b ≠ b') : Disjoint (xBlkM b).view.set (xBlkM b').view.set := by
  rw [xblk_set, xblk_set]
  exact lead_disjoint (s := S4096x512) 0 512 (fun j : Fin 8 => ![512 * j.val, 0]) S512x512.size inbX (by decide) rfl b b' h
/-- The blocks make up the rounded copy. -/
theorem xblk_cover : Finset.biUnion (β := S4096x512.Idx) Finset.univ (fun b : Fin 8 => (xBlkM b).view.set) = Finset.univ := by
  rw [Finset.biUnion_congr rfl (fun b _ => xblk_set b)]
  exact lead_cover (s := S4096x512) 0 512 (fun j : Fin 8 => ![512 * j.val, 0]) S512x512.size inbX (by decide) (by decide) rfl (by decide) rfl

/-! ## Buffers held whole are held part by part -/

/-- The narrowed column block held whole is its eight row blocks. -/
theorem xs_split (c : Dev nD) : (((c : Thread nD τ).loc cc0_scratch0 ↦{fullShare} xs m ρ c : sProp 𝕄)) = bigSep Finset.univ (xsPts m ρ c) :=
  pointsTo_blocks (ℓ := (c : Thread nD τ).loc cc0_scratch0) (fun b : Fin 8 => (xBlkM b).view.set) xblk_disj xblk_cover (xs m ρ c)

/-- The received blocks held whole are the eight slots. -/
theorem slots_split (c : Dev nD) (f : Vec F S8x512x512 .bf16) :
    (((c : Thread nD τ).loc cc0_scratch1 ↦{fullShare} f : sProp 𝕄)) = bigSep Finset.univ (fun j => slotPts c j f) :=
  pointsTo_blocks (ℓ := (c : Thread nD τ).loc cc0_scratch1) (fun b : Fin 8 => (slotM b).view.set) slot_disj slot_cover f
/-- The slots, each at contents of its own, are the buffer at some contents. -/
theorem slots_join (c : Dev nD) (f₀ : Vec F S8x512x512 .bf16) :
    bigSep Finset.univ (fun j => iprop(∃ f, slotPts (F := F) c j f)) ⊢ (iprop(∃ f, (c : Thread nD τ).loc cc0_scratch1 ↦{fullShare} f) : sProp 𝕄) :=
  pointsTo_blocks_join_exists (ℓ := (c : Thread nD τ).loc cc0_scratch1) (fun b : Fin 8 => (slotM b).view.set) slot_disj slot_cover f₀

/-- The maxima held whole at some share are the eight rows at that share. -/
theorem rows_split (c : Dev nD) (q : PosShare TreeShare) (f : Vec F S8x128 .f32) :
    (((c : Thread nD τ).loc cc0_scratch3 ↦{q} f : sProp 𝕄)) = bigSep Finset.univ (fun j => rowPts c j q f) :=
  pointsTo_blocks (ℓ := (c : Thread nD τ).loc cc0_scratch3) (fun b : Fin 8 => (rowM b).view.set) row_disj row_cover f
omit [FloatOps F] in
/-- Anything at the full share is held at the eight equal shares. -/
theorem leaves8 {ℓ : Loc nD τ sig} (I : Finset (Idx ℓ)) (f : Buf (Elt F) ℓ) :
    (ℓ ↦[I]{fullShare} f : sProp 𝕄) = bigSep Finset.univ (fun d : Fin 8 => ℓ ↦[I]{eighth d} f) :=
  ShareLeaves.pointsTo_leaves I f 3 fullShare
/-- A row at the full share is the row at the eight equal shares. -/
theorem row_leaves (c : Dev nD) (j : Fin 8) (f : Vec F S8x128 .f32) :
    (rowPts (F := F) c j fullShare f : sProp 𝕄) = bigSep Finset.univ (fun d : Fin 8 => rowPts (F := F) c j (eighth d) f) :=
  leaves8 (ℓ := (rowM j).view.loc (c : Thread nD τ)) (rowM j).view.set f

/-- The two blocks of `w_mat` held whole are the two slots. -/
theorem wsl_split (c : Dev nD) (f : Vec F S2x512x2048 .f32) :
    (((c : Thread nD τ).loc cc0_scratch2 ↦{fullShare} f : sProp 𝕄)) = bigSep Finset.univ (fun j => wslPts c j f) :=
  pointsTo_blocks (ℓ := (c : Thread nD τ).loc cc0_scratch2) (fun b : Fin 2 => (wSlM b).view.set) wsl_disj wsl_cover f
/-- Owning both buffers for the second operand is owning the pair. -/
theorem wsl_join (c : Dev nD) (f₀ : Vec F S2x512x2048 .f32) :
    bigSep Finset.univ (fun j => iprop(∃ f, wslPts (F := F) c j f)) ⊢ (iprop(∃ f, (c : Thread nD τ).loc cc0_scratch2 ↦{fullShare} f) : sProp 𝕄) :=
  pointsTo_blocks_join_exists (ℓ := (c : Thread nD τ).loc cc0_scratch2) (fun b : Fin 2 => (wSlM b).view.set) wsl_disj wsl_cover f₀

/-! ## Contents matter only as far as the part reads them -/

omit [FloatOps F] in
/-- Contents a part reads alike are, on that part, the same contents. -/
theorem eq_on_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this

omit [FloatOps F] in
/-- Owning a slot depends only on what is read in the slot. -/
theorem slotPts_congr (c : Dev nD) (j : Fin 8) {f g : Vec F S8x512x512 .bf16} (h : (slotM j).view.read (Elt F) f = (slotM j).view.read (Elt F) g) :
    (slotPts c j f : sProp 𝕄) = slotPts c j g := pointsTo_congr (eq_on_of_read (slotM j).view h)
omit [FloatOps F] in
/-- Owning a row depends only on what is read in the row. -/
theorem rowPts_congr (c : Dev nD) (j : Fin 8) (q) {f g : Vec F S8x128 .f32} (h : (rowM j).view.read (Elt F) f = (rowM j).view.read (Elt F) g) :
    (rowPts c j q f : sProp 𝕄) = rowPts c j q g := pointsTo_congr (eq_on_of_read (rowM j).view h)
omit [FloatOps F] in
/-- Owning a buffer depends only on what is read in the buffer. -/
theorem wslPts_congr (c : Dev nD) (j : Fin 2) {f g : Vec F S2x512x2048 .f32} (h : (wSlM j).view.read (Elt F) f = (wSlM j).view.read (Elt F) g) :
    (wslPts c j f : sProp 𝕄) = wslPts c j g := pointsTo_congr (eq_on_of_read (wSlM j).view h)

/-! ## What the parts read -/

omit [FloatOps F] in
/-- A part of a whole buffer seen under another shape reads the buffer at the part's place. -/
theorem read_squeezed {κ : Kind} (b : Ref sig κ) (r : Rect b.ty.shape) {s' : Shape} (h : s'.numel = r.shape.numel) (f : b.ty.Contents (Elt F)) (x : s'.Idx) :
    (((View.whole b).slice r).reshape s' h).read (Elt F) f x = f (r.idx (Shape.reshapeEquiv h x)) := rfl

/-- Slot `d` of the received blocks reads the block device `c - d` sent. -/
theorem slot_read (c : Dev nD) (d : Fin 8) : (slotM d).view.read (Elt F) (XG m ρ c) = xblk m ρ (back c d) c := by
  funext x
  show XG m ρ c ((Rect.unit (s := S8x512x512) ![d.val, 0, 0] S1x512x512.size (inbS d)).idx (Shape.reshapeEquiv squeezes_S1x512x512_S512x512.numel_eq x)) = _
  have hx : Shape.reshapeEquiv squeezes_S1x512x512_S512x512.numel_eq x = (Fin.cons (⟨0, Nat.one_pos⟩ : Fin 1) x : S1x512x512.Idx) := Shape.reshapeEquiv_cons_one _ x
  rw [hx]
  unfold XG
  have h0 : ((Rect.unit (s := S8x512x512) ![d.val, 0, 0] S1x512x512.size (inbS d)).idx (Fin.cons (⟨0, Nat.one_pos⟩ : Fin 1) x : S1x512x512.Idx)) 0 = d :=
    Fin.ext (by show d.val + 1 * 0 = d.val; omega)
  rw [h0]
  congr 1
  funext a
  refine Fin.ext ?_
  revert a
  show ∀ a : Fin 2, _
  intro a
  match a with
  | 0 => show 0 + 1 * (x 0).val = _; omega
  | 1 => show 0 + 1 * (x 1).val = _; omega

/-- Either slot reads the block of `w_mat` it holds. -/
theorem wsl_read (c : Dev nD) (j : Fin 8) (s : Fin 2) : (wSlM s).view.read (Elt F) (WB m c j) = wblk m c j := by
  funext x
  show WB m c j ((Rect.unit (s := S2x512x2048) ![s.val, 0, 0] S1x512x2048.size (inbB s)).idx (Shape.reshapeEquiv squeezes_S1x512x2048_S512x2048.numel_eq x)) = _
  have hx : Shape.reshapeEquiv squeezes_S1x512x2048_S512x2048.numel_eq x = (Fin.cons (⟨0, Nat.one_pos⟩ : Fin 1) x : S1x512x2048.Idx) := Shape.reshapeEquiv_cons_one _ x
  rw [hx]
  unfold WB
  congr 1
  funext a
  refine Fin.ext ?_
  revert a
  show ∀ a : Fin 2, _
  intro a
  match a with
  | 0 => show 0 + 1 * (x 0).val = _; omega
  | 1 => show 0 + 1 * (x 1).val = _; omega

/-- A row of maxima as one vector. -/
def amvec (c : Dev nD) : Vec F S128 .f32 := fun x => amv m ρ c (Shape.reshapeEquiv squeezes_S1x128_S128.numel_eq x)

/-- Row `d` of the maxima reads device `c - d`'s row. -/
theorem row_read (c : Dev nD) (d : Fin 8) : (rowM d).view.read (Elt F) (AM m ρ c) = amvec m ρ (back c d) := by
  funext x
  unfold amvec
  refine (read_squeezed (F := F) cc0_scratch3 (Rect.unit (s := S8x128) ![d.val, 0] S1x128.size (inbR d)) squeezes_S1x128_S128.numel_eq (AM m ρ c) x).trans ?_
  have hx : Shape.reshapeEquiv squeezes_S1x128_S128.numel_eq x = (Fin.cons (⟨0, Nat.one_pos⟩ : Fin 1) x : S1x128.Idx) := Shape.reshapeEquiv_cons_one _ x
  rw [hx]
  unfold AM
  have h0 : ((Rect.unit (s := S8x128) ![d.val, 0] S1x128.size (inbR d)).idx (Fin.cons (⟨0, Nat.one_pos⟩ : Fin 1) x : S1x128.Idx)) 0 = d :=
    Fin.ext (by show d.val + 1 * 0 = d.val; omega)
  rw [h0]
  congr 1
  funext a
  refine Fin.ext ?_
  revert a
  show ∀ a : Fin 2, _
  intro a
  match a with
  | 0 => rfl
  | 1 => show 0 + 1 * (x 0).val = (x 0).val; omega

end Cert.KProof
-- ==== Proof.Steps.lean ====
/-
# `k`: one step of the kernel, for every distance at once

A signal, a transfer of a block or of a row of maxima, the wait for either, a copy of a block of `w_mat` and its wait,
and the loads of the parts. Each is stated for any distance `d` (any slot `s`), what it is addressed to given by
equations that the caller proves.
-/
module

public import proofs.«01_k».proof.Proof.Geometry

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every step may use -/

/-- The cells' invariants under the names `K`, and that every cell has reached round 0. -/
def records (K : Dev nD × CI → ℕ) : sProp 𝕄 :=
  iprop((bigSep Finset.univ fun ck => cellInv ER (Rd m ρ) (K ck) (kcell ck)) ∗ bigSep Finset.univ fun ck : Dev nD × CI => reached ER (kcell ck) 0)

/-- The record of the protocol lasts. -/
instance records_persistent (K : Dev nD × CI → ℕ) : BI.Persistent (records m ρ K) := by unfold records; infer_instance

/-- The record holds the invariant of each semaphore. -/
theorem inv_at (K : Dev nD × CI → ℕ) (ck : Dev nD × CI) : records m ρ K ⊢ cellInv ER (Rd m ρ) (K ck) (kcell ck) := by
  unfold records
  iintro ⟨H, -⟩
  ihave H := (show _ ⊢ _ from bigSep_elim (Φ := fun ck => cellInv ER (Rd m ρ) (K ck) (kcell ck)) (Finset.mem_univ ck)) $$ H
  iexact H
/-- The record holds that each semaphore has reached its first round. -/
theorem reached_at (K : Dev nD × CI → ℕ) (ck : Dev nD × CI) : records m ρ K ⊢ (reached ER (kcell ck) 0 : sProp 𝕄) := by
  unfold records
  iintro ⟨-, H⟩
  ihave H := (show _ ⊢ _ from bigSep_elim (Φ := fun ck : Dev nD × CI => (reached ER (kcell ck) 0 : sProp 𝕄)) (Finset.mem_univ ck)) $$ H
  iexact H

/-- The context: those records and the levels. -/
def Ctx (K : Dev nD × CI → ℕ) : sProp 𝕄 := iprop(records m ρ K ∗ levAts L lv)
/-- The common context lasts. -/
instance ctx_persistent (K : Dev nD × CI → ℕ) : BI.Persistent (Ctx m ρ K) := by unfold Ctx; infer_instance

/-- The kernel uses no loop variants. -/
abbrev 𝒱₀ : Variants := Variants.none

/-- What device `c` owes after `n` payments, whatever it has waited for. -/
def ow (c : Dev nD) (n : ℕ) : sProp 𝕄 := iprop(∃ W, owes (c : Thread nD τ) (O c n) W)

/-- What a signal over distance `d` needs: its duty's token, and the slot and the row its receiver will write to. -/
def SigItem (c : Dev nD) (d : Fin 8) : sProp 𝕄 :=
  iprop(dutyTok ER (barCell (peer c d)) 0 (neg d) ∗ (∃ f, slotPts c (neg d) f) ∗ ∃ f, rowPts c (neg d) fullShare f)
/-- What a family's transfer over distance `d` needs in tokens. -/
def Toks (f g : Fin 4) (c : Dev nD) (d : Fin 8) : sProp 𝕄 := iprop(dutyTok ER (xcell f c d) 0 0 ∗ dutyTok ER (xcell g (peer c d) d) 0 0)
/-- What the wait at a transfer cell needs. -/
def WaitItem (f : Fin 4) (c : Dev nD) (d : Fin 8) : sProp 𝕄 := iprop(cred (tallyAt (xcell f c d) () (NF f)) ∗ atPos ER (xcell f c d) 0 ∅ 0)

section Steps

variable (K : Dev nD × CI → ℕ)

/-! ## Signals and the barrier's wait -/

/-- A signal over distance `d`. -/
theorem sig_step (c n : Dev nD) (d : Fin 8) (hd : d ≠ 0) (hn : n = peer c d) (i : ℕ)
    (hO : O c i = O c (i + 1) + tallyAt (barCell (peer c d)) () 1)
    {α : Type} {Kt : α → sProp 𝕄} {k : PUnit → Prog (TpuEff nD τ sig (Elt F) Λ₀ .tc) α} :
    Ctx m ρ K ⊢ iprop(ow c i -∗ SigItem c d
      -∗ (ow c (i + 1) -∗ wp frame (wpE (defs₀ (F := F)) 𝒱₀ (c : Thread nD τ) none) Set.univ (k ⟨⟩) Kt)
      -∗ wp frame (wpE (defs₀ (F := F)) 𝒱₀ (c : Thread nD τ) none) Set.univ (.op (.semSignal (n, .tc) barS (1#32).toInt) k) Kt) := by
  subst hn
  unfold ow SigItem Ctx
  iintro ⟨#HR, #HL⟩ ⟨%W, HO⟩ ⟨Ht, Hs, Hr⟩ Hk
  iapply (Rounds.wp_signal 𝒱₀ ER (Rd m ρ) (c : Thread nD τ) none (dst := (peer c d : Thread nD τ)) (κ := K (peer c d, none))
      (d := neg d) (by rw [duties_bar]; exact Finset.mem_erase.mpr ⟨neg_ne_zero d hd, Finset.mem_univ _⟩)
      ((amount_bar m ρ (peer c d) (neg d)).trans (by decide)) () (O c (i + 1)) hO) $$ [HO Ht Hs Hr]
  · isplitr; · iapply (inv_at m ρ K (peer c d, none)); iexact HR
    isplitl [HO]; · iexact HO
    isplitl [Ht]; · iexact Ht
    isplitl [Hs Hr]
    · rw [payload_bar]; unfold barPay; rw [peer_neg]
      isplitl [Hs] <;> iassumption
    iapply (reached_at m ρ K (peer c d, none)); iexact HR
  iintro HO
  iapply Hk
  iexists W; iexact HO

/-- The barrier's wait: the seven others' slots and rows. -/
theorem bar_wait (c : Dev nD) {α : Type} {Kt : α → sProp 𝕄} {k : PUnit → Prog (TpuEff nD τ sig (Elt F) Λ₀ .tc) α} :
    Ctx m ρ K ⊢ iprop(ow c 7 -∗ (cred (tallyAt (barCell c) () 7) ∗ atPos ER (barCell c) 0 ∅ 0)
      -∗ ((ow c 7 ∗ semVal (barCell c) 0 ∗ seven (barPay c)) -∗ wp frame (wpE (defs₀ (F := F)) 𝒱₀ (c : Thread nD τ) none) Set.univ (k ⟨⟩) Kt)
      -∗ wp frame (wpE (defs₀ (F := F)) 𝒱₀ (c : Thread nD τ) none) Set.univ (.op (.semWait barS (7#32).toInt) k) Kt) := by
  unfold ow Ctx
  iintro ⟨#HR, #HL⟩ ⟨%W, HO⟩ ⟨Hc, Hat⟩ Hk
  ihave #HI := (inv_at m ρ K (c, none)) $$ HR
  iapply (Rounds.wp_wait_rest_token 𝒱₀ ER (Rd m ρ) (c : Thread nD τ) none (κ := K (c, none))
      (wpE_semWait_eq 𝒱₀ (c : Thread nD τ) none Set.univ) (Set.mem_univ _) () (O := O c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait_O c 7 (.reg barS) (by decide)); iexact HL
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- The wait at a transfer cell: what the transfer hands over, the cell closed. -/
theorem x_wait (c : Dev nD) (f : Fin 4) (d : Fin 8) (hd : d ≠ 0) (i : ℕ) (hi : ∀ x ∈ debtLv i, lvS (.dma (xsem f d)) < x)
    {sem : DmaSem sig} (hs : sem = xsem f d) {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = NF f)
    {α : Type} {Kt : α → sProp 𝕄} {k : PUnit → Prog (TpuEff nD τ sig (Elt F) Λ₀ .tc) α} :
    Ctx m ρ K ⊢ iprop(ow c i -∗ WaitItem f c d
      -∗ ((ow c i ∗ famPay m ρ f.val c d ∗ semVal (xcell f c d) 0) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sem srcw dstw hsrc hdst) k) Kt) := by
  subst hs
  unfold ow Ctx WaitItem
  iintro ⟨#HR, #HL⟩ ⟨%W, HO⟩ ⟨Hc, Hat⟩ Hk
  ihave #HI := (inv_at m ρ K (c, some (f, d))) $$ HR
  iapply (Rounds.wp_wait_rest_token 𝒱₀ ER (Rd m ρ) (c : Thread nD τ) none (κ := K (c, some (f, d)))
      (wpE_waitDma2_eq 𝒱₀ (c : Thread nD τ) none Set.univ) (Set.mem_univ _) () (O := O c i) (W := W) (R := 0) (m := 0) (T := ∅)
      (by rw [Nat.zero_add, expect_x m ρ c f d hd, hN])) $$ [Hc HO Hat]
  · isplitr; · iexact HI
    isplitl [Hc]; · rw [hN]; iexact Hc
    isplitl [HO]; · iexact HO
    isplitr; · iapply (mayWait_O c i _ hi); iexact HL
    iexact Hat
  iintro ⟨HO, Hat, -, Hpay⟩
  ihave Hp := (Entails.of_eq (rest_x m ρ c f d hd)) $$ Hpay
  imod (Rounds.cell_close ER (Rd m ρ) (Set.mem_univ (K (c, some (f, d)))) (fun h => h) (R := 0 + 1) (duties_later m ρ (xcell f c d))) $$ [Hat] with Hz
  · isplitr; · iexact HI
    iexact Hat
  iapply Hk
  isplitl [HO]; · iexists _; iexact HO
  isplitl [Hp]; · iexact Hp
  iexact Hz

/-! ## Transfers to another device -/

/-- The transfer of row block `c + d` to device `c + d`, into its slot `d`. -/
theorem x_send (c n : Dev nD) (d : Fin 8) (hd : d ≠ 0) (hn : n = peer c d) (i : ℕ)
    (hO : O c i = O c (i + 1) + tallyAt (xcell 1 (peer c d) d) () NX)
    {src : Memref sig .tc .vmem S512x512 .bf16} (hsr : src = xBlkM (peer c d)) {dst : Memref sig .tc .vmem S512x512 .bf16} (hds : dst = slotM d)
    {sS sR : DmaSem sig} (hsS : sS = xsem 0 d) (hsR : sR = xsem 1 d)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Kt : α → sProp 𝕄} {k : PUnit → Prog (TpuEff nD τ sig (Elt F) Λ₀ .tc) α} :
    Ctx m ρ K ⊢ iprop(ow c i -∗ xsPts m ρ c (peer c d) -∗ (∃ f, slotPts (F := F) (peer c d) d f) -∗ Toks 0 1 c d
      -∗ ((ow c (i + 1) ∗ cred (tallyAt (xcell 0 c d) () (NF 0))) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma src (.remote (Dev.tc n : Thread nD τ) dst (.dma sS) hsc) (.dma sR) hsrc hdst hsem) k) Kt) := by
  subst hn hsr hds hsS hsR
  unfold ow Ctx Toks xsPts
  iintro ⟨#HR, #HL⟩ ⟨%W, HO⟩ Hx ⟨%fn, Hs⟩ ⟨Ht₁, Ht₂⟩ Hk
  unfold slotPts
  iapply (Rounds.wp_send_pointsTo 𝒱₀ ER (Rd m ρ) (c : Thread nD τ) none (κ₁ := K (c, some (0, d))) (κ₂ := K (peer c d, some (1, d)))
    (r₁ := 0) (r₂ := 0) (d₁ := 0) (d₂ := 0) (fd := fn)
    (by rw [duties_x m ρ c 0 d hd]; exact Finset.mem_singleton_self _) (by rw [duties_x m ρ (peer c d) 1 d hd]; exact Finset.mem_singleton_self _)
    () () NX (show (slotM d).view.amount (.dma (xsem 1 d)) = NX from slot_credit d) (amount_x m ρ c 0 d 0) (amount_x m ρ (peer c d) 1 d 0) (O c (i + 1)) hO (W := W)
    (by rw [payload_x]; exact BI.Entails.refl _)
    (by
      rw [payload_x]
      refine Entails.of_eq (slotPts_congr (peer c d) d ?_)
      rw [View.read_write_univ, slot_read, back_peer]; rfl)) $$ [HO Hx Hs Ht₁ Ht₂]
  · isplitr; · iapply (inv_at m ρ K (c, some (0, d))); iexact HR
    isplitr; · iapply (inv_at m ρ K (peer c d, some (1, d))); iexact HR
    isplitl [Hx]; · iexact Hx
    isplitl [Hs]; · iexact Hs
    isplitl [HO]; · iexact HO
    isplitl [Ht₁]; · iexact Ht₁
    isplitr; · iapply (reached_at m ρ K (c, some (0, d))); iexact HR
    isplitl [Ht₂]; · iexact Ht₂
    iapply (reached_at m ρ K (peer c d, some (1, d))); iexact HR
  iintro ⟨HC, HO⟩
  iapply Hk
  isplitl [HO]; · iexists W; iexact HO
  iexact HC

/-- The transfer of the maxima row to device `c + d`, into its row `d`. -/
theorem a_send (c n : Dev nD) (d : Fin 8) (hd : d ≠ 0) (hn : n = peer c d) (i : ℕ)
    (hO : O c i = O c (i + 1) + tallyAt (xcell 3 (peer c d) d) () NA)
    {src : Memref sig .tc .vmem S128 .f32} (hsr : src = rowM 0) {dst : Memref sig .tc .vmem S128 .f32} (hds : dst = rowM d)
    {sS sR : DmaSem sig} (hsS : sS = xsem 2 d) (hsR : sR = xsem 3 d)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Kt : α → sProp 𝕄} {k : PUnit → Prog (TpuEff nD τ sig (Elt F) Λ₀ .tc) α} :
    Ctx m ρ K ⊢ iprop(ow c i -∗ rowPts (F := F) c 0 (eighth d) (AM m ρ c) -∗ (∃ f, rowPts (F := F) (peer c d) d fullShare f) -∗ Toks 2 3 c d
      -∗ ((ow c (i + 1) ∗ cred (tallyAt (xcell 2 c d) () (NF 2))) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma src (.remote (Dev.tc n : Thread nD τ) dst (.dma sS) hsc) (.dma sR) hsrc hdst hsem) k) Kt) := by
  subst hn hsr hds hsS hsR
  unfold ow Ctx Toks
  iintro ⟨#HR, #HL⟩ ⟨%W, HO⟩ Hx ⟨%fn, Hs⟩ ⟨Ht₁, Ht₂⟩ Hk
  unfold rowPts
  iapply (Rounds.wp_send_pointsTo 𝒱₀ ER (Rd m ρ) (c : Thread nD τ) none (κ₁ := K (c, some (2, d))) (κ₂ := K (peer c d, some (3, d)))
    (r₁ := 0) (r₂ := 0) (d₁ := 0) (d₂ := 0) (fd := fn) (q := eighth d) (fs := AM m ρ c)
    (by rw [duties_x m ρ c 2 d hd]; exact Finset.mem_singleton_self _) (by rw [duties_x m ρ (peer c d) 3 d hd]; exact Finset.mem_singleton_self _)
    () () NA (show (rowM d).view.amount (.dma (xsem 3 d)) = NA from row_credit d) (amount_x m ρ c 2 d 0) (amount_x m ρ (peer c d) 3 d 0) (O c (i + 1)) hO (W := W)
    (by rw [payload_x]; exact BI.Entails.refl _)
    (by
      rw [payload_x]
      refine Entails.of_eq (rowPts_congr (peer c d) d fullShare ?_)
      rw [View.read_write_univ, row_read, row_read, back_peer, back_zero])) $$ [HO Hx Hs Ht₁ Ht₂]
  · isplitr; · iapply (inv_at m ρ K (c, some (2, d))); iexact HR
    isplitr; · iapply (inv_at m ρ K (peer c d, some (3, d))); iexact HR
    isplitl [Hx]; · iexact Hx
    isplitl [Hs]; · iexact Hs
    isplitl [HO]; · iexact HO
    isplitl [Ht₁]; · iexact Ht₁
    isplitr; · iapply (reached_at m ρ K (c, some (2, d))); iexact HR
    isplitl [Ht₂]; · iexact Ht₂
    iapply (reached_at m ρ K (peer c d, some (3, d))); iexact HR
  iintro ⟨HC, HO⟩
  iapply Hk
  isplitl [HO]; · iexists W; iexact HO
  iexact HC

end Steps

end Cert.KProof
-- ==== Proof.WPipe.lean ====
/-
# `k`: the copies of blocks of `w_mat`, and the loads of one block or slot

Two slots hold a block of `w_mat` each; a slot goes with half of the core's share of `w_mat`. A slot is free, or a copy
into it is under way, or it holds a block.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A slot's states -/

/-- The half of the core's share of `w_mat` that goes with slot `s`. -/
def wshare (s : Fin 2) : PosShare TreeShare := if s = 0 then (fullShare : PosShare TreeShare).left else (fullShare : PosShare TreeShare).right
/-- Device `c` owns its share, for buffer `s`, of the second operand. -/
def wSrc (c : Dev nD) (s : Fin 2) : sProp 𝕄 := (c : Thread nD τ).loc main_arg1 ↦{wshare s} wfull m c
/-- That share of row block `j` of the second operand alone. -/
def wPart (c : Dev nD) (s : Fin 2) (j : Fin 8) : sProp 𝕄 := (wBlkM j).view.loc (c : Thread nD τ) ↦[(wBlkM j).view.set]{wshare s} wfull m c
/-- That share of all but row block `j` of the second operand. -/
def wRest (c : Dev nD) (s : Fin 2) (j : Fin 8) : sProp 𝕄 := (wBlkM j).view.loc (c : Thread nD τ) ↦[Finset.univ \ (wBlkM j).view.set]{wshare s} wfull m c

/-- The share of the second operand is that of a row block and that of the rest. -/
theorem wSrc_split (c : Dev nD) (s : Fin 2) (j : Fin 8) : wSrc m c s ⊣⊢ (iprop(wPart m c s j ∗ wRest m c s j) : sProp 𝕄) :=
  pointsTo_split_subset (Finset.subset_univ _)

/-- Slot `s` is free. -/
def wFree (c : Dev nD) (s : Fin 2) : sProp 𝕄 :=
  iprop((∃ f, wslPts (F := F) c s f) ∗ semVal ((c : Thread nD τ), SemLoc.dma (wsem s)) 0 ∗ wSrc m c s)
/-- Block `j` is on its way into slot `s`. -/
def wFly (c : Dev nD) (s : Fin 2) (j : Fin 8) : sProp 𝕄 :=
  iprop(Transfers.Flight EC (c : Thread nD τ) (.dma (wsem s)) () NW iprop(wslPts c s (WB m c j) ∗ wPart m c s j) ∗ wRest m c s j)
/-- Slot `s` holds block `j`. -/
def wHave (c : Dev nD) (s : Fin 2) (j : Fin 8) : sProp 𝕄 :=
  iprop(wslPts c s (WB m c j) ∗ semVal ((c : Thread nD τ), SemLoc.dma (wsem s)) 0 ∗ wSrc m c s)

/-- A buffer which holds a row block may be filled anew. -/
theorem wHave_free (c : Dev nD) (s : Fin 2) (j : Fin 8) : wHave m c s j ⊢ wFree m c s := by
  unfold wHave wFree
  iintro ⟨H, Hr⟩
  isplitl [H]; · iexists _; iexact H
  iexact Hr

/-- `w_mat` whole is the two halves. -/
theorem wSrc_halves (c : Dev nD) : ((c : Thread nD τ).loc main_arg1 ↦{fullShare} wfull m c : sProp 𝕄) ⊣⊢ iprop(wSrc m c 0 ∗ wSrc m c 1) :=
  pointsTo_share (PosShare.mem_left_op_right fullShare)

section Steps

variable (K : Dev nD × CI → ℕ)

/-- A copy of block `j` of `w_mat` into a free slot starts. -/
theorem w_issue (c : Dev nD) (s : Fin 2) (j : Fin 8)
    {src : Memref sig .tc .hbm S512x2048 .f32} (hsr : src = wBlkM j) {dst : Memref sig .tc .vmem S512x2048 .f32} (hds : dst = wSlM s)
    {sm : DmaSem sig} (hsm : sm = wsem s)
    {hsrc : src.view.WordExact} {hdst : dst.view.WordExact} {hsem : DmaTarget.Typed .hbm (.dma sm) (.here dst : DmaTarget nD τ sig (.tc : Proc τ) .vmem S512x2048 .f32)}
    {α : Type} {Kt : α → sProp 𝕄} {k : PUnit → Prog (TpuEff nD τ sig (Elt F) Λ₀ .tc) α} :
    wFree m c s ⊢ iprop((wFly m c s j -∗ wp frame (wpE (defs₀ (F := F)) 𝒱₀ (c : Thread nD τ) none) Set.univ (k ⟨⟩) Kt)
      -∗ wp frame (wpE (defs₀ (F := F)) 𝒱₀ (c : Thread nD τ) none) Set.univ (.op (.enqueueDma src (.here dst) (.dma sm) hsrc hdst hsem) k) Kt) := by
  subst hsr hds hsm
  unfold wFree wFly
  iintro ⟨⟨%f, Hd⟩, Hv, Hs⟩ Hk
  ihave Hs' := (wSrc_split m c s j).1 $$ Hs
  icases Hs' with ⟨Hp, Hr⟩
  have e : ((wSlM s).view.loc (c : Thread nD τ) ↦[(wSlM s).view.set]{fullShare}
      ((wSlM s).view.write (Elt F) f ((ReadAs.same : ReadAs (Elt F) S512x2048 .f32 S512x2048 .f32).apply ((wBlkM j).view.read (Elt F) (wfull m c))) Finset.univ) : sProp 𝕄)
      = wslPts c s (WB m c j) := wslPts_congr c s (by rw [View.read_write_univ, wsl_read]; rfl)
  rw [← e]
  unfold wslPts wPart
  iapply (Transfers.wp_dmaLocal EC 𝒱₀ (c : Thread nD τ) none () NW (show (wSlM s).view.amount (.dma (wsem s)) = NW from wSl_credit s) NW_pos
    (Finset.Subset.refl _)) $$ [Hd Hp Hv]
  · isplitl [Hp]; · iexact Hp
    isplitl [Hd]; · iexact Hd
    iexact Hv
  iintro HF
  iapply Hk
  isplitl [HF]; · iexact HF
  iexact Hr

/-- The wait for a copy of block `j`: the slot holds it. -/
theorem w_wait (c : Dev nD) (s : Fin 2) (j : Fin 8) (i : ℕ) (hi : ∀ x ∈ debtLv i, lvS (.dma (wsem s)) < x)
    {sm : DmaSem sig} (hsm : sm = wsem s) {sp sp' : Space} {t t' : Shape} {e e' : EltTy} {κ' : Kind}
    {srcw : Memref sig .tc sp' t' e'} {dstw : Memref sig κ' sp t e} {hsrc : srcw.view.WordExact} {hdst : dstw.view.WordExact}
    (hN : dstw.view.dmaCredit = NW)
    {α : Type} {Kt : α → sProp 𝕄} {k : PUnit → Prog (TpuEff nD τ sig (Elt F) Λ₀ .tc) α} :
    Ctx m ρ K ⊢ iprop(ow c i -∗ wFly m c s j
      -∗ ((ow c i ∗ wHave m c s j) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sm srcw dstw hsrc hdst) k) Kt) := by
  subst hsm
  unfold ow Ctx wFly wHave
  iintro ⟨#HR, #HL⟩ ⟨%W, HO⟩ ⟨HF, Hr⟩ Hk
  iapply (Transfers.wp_waitLocalO EC 𝒱₀ (c : Thread nD τ) none () hN) $$ [HF HO]
  · isplitl [HF]; · iexact HF
    isplitl [HO]; · iexact HO
    iapply (mayWait_O c i _ hi); iexact HL
  iintro ⟨⟨Hd, Hp⟩, Hv, HO⟩
  iapply Hk
  isplitl [HO]; · iexists _; iexact HO
  isplitl [Hd]; · iexact Hd
  isplitl [Hv]; · iexact Hv
  iapply (wSrc_split m c s j).2
  isplitl [Hp] <;> iassumption

/-! ## Loads -/

/-- The load of slot `d` of the received blocks. -/
theorem slot_load (c : Dev nD) (d : Fin 8) {o : Fin 3 → ℕ} (ho : o = ![d.val, 0, 0]) {inb} {hl}
    {α : Type} {Kt : α → sProp 𝕄} {k : Vec F S1x512x512 .bf16 → Prog (TpuEff nD τ sig (Elt F) Λ₀ .tc) α} :
    slotPts c d (XG m ρ c) ⊢ iprop((∀ v, ⌜shapeCast S512x512 v shapeCasts_S1x512x512_S512x512 = xblk m ρ (back c d) c⌝ -∗ slotPts c d (XG m ρ c)
        -∗ wp frame (wpE (defs₀ (F := F)) 𝒱₀ (c : Thread nD τ) none) Set.univ (k v) Kt)
      -∗ wp frame (wpE (defs₀ (F := F)) 𝒱₀ (c : Thread nD τ) none) Set.univ
          (.op (.load xgM (Rect.unit (s := S8x512x512) o S1x512x512.size inb).toLoadRect hl) k) Kt) := by
  subst ho
  unfold slotPts
  iintro H Hk
  iapply (wp_load_rect 𝒱₀ (c : Thread nD τ) none Set.univ (m := xgM) (r := Rect.unit (s := S8x512x512) ![d.val, 0, 0] S1x512x512.size inb) (S := (slotM d).view.set)
    (by rw [slot_set]; exact Finset.subset_of_eq (View.set_slice_whole cc0_scratch1 _))) $$ H
  iintro H
  iapply Hk
  · ipureintro; exact slot_read m ρ c d
  iexact H

/-- The load of a slot that holds block `j` of `w_mat`. -/
theorem w_load (c : Dev nD) (s : Fin 2) (j : Fin 8) {o : Fin 3 → ℕ} (ho : o = ![s.val, 0, 0]) {inb} {hl}
    {α : Type} {Kt : α → sProp 𝕄} {k : Vec F S1x512x2048 .f32 → Prog (TpuEff nD τ sig (Elt F) Λ₀ .tc) α} :
    wHave m c s j ⊢ iprop((∀ v, ⌜shapeCast S512x2048 v shapeCasts_S1x512x2048_S512x2048 = wblk m c j⌝ -∗ wHave m c s j
        -∗ wp frame (wpE (defs₀ (F := F)) 𝒱₀ (c : Thread nD τ) none) Set.univ (k v) Kt)
      -∗ wp frame (wpE (defs₀ (F := F)) 𝒱₀ (c : Thread nD τ) none) Set.univ
          (.op (.load wbM (Rect.unit (s := S2x512x2048) o S1x512x2048.size inb).toLoadRect hl) k) Kt) := by
  subst ho
  unfold wHave wslPts
  iintro ⟨H, Hr⟩ Hk
  iapply (wp_load_rect 𝒱₀ (c : Thread nD τ) none Set.univ (m := wbM) (r := Rect.unit (s := S2x512x2048) ![s.val, 0, 0] S1x512x2048.size inb) (S := (wSlM s).view.set)
    (by rw [wsl_set]; exact Finset.subset_of_eq (View.set_slice_whole cc0_scratch2 _))) $$ H
  iintro H
  iapply Hk
  · ipureintro; exact wsl_read m c j s
  isplitl [H]; · iexact H
  iexact Hr

/-- The load of the core's own row block. -/
theorem own_load (c : Dev nD) (j : Fin 8) {o : Fin 2 → ℕ} (ho : o = ![512 * j.val, 0]) {inb} {hl}
    {α : Type} {Kt : α → sProp 𝕄} {k : Vec F S512x512 .bf16 → Prog (TpuEff nD τ sig (Elt F) Λ₀ .tc) α} :
    xsPts m ρ c j ⊢ iprop((xsPts m ρ c j -∗ wp frame (wpE (defs₀ (F := F)) 𝒱₀ (c : Thread nD τ) none) Set.univ (k (xblk m ρ c j)) Kt)
      -∗ wp frame (wpE (defs₀ (F := F)) 𝒱₀ (c : Thread nD τ) none) Set.univ
          (.op (.load xsM (Rect.unit (s := S4096x512) o S512x512.size inb).toLoadRect hl) k) Kt) := by
  subst ho
  unfold xsPts
  iintro H Hk
  iapply (wp_load_rect 𝒱₀ (c : Thread nD τ) none Set.univ (m := xsM) (r := Rect.unit (s := S4096x512) ![512 * j.val, 0] S512x512.size inb) (S := (xBlkM j).view.set)
    (Finset.Subset.refl _)) $$ H
  iintro H
  iapply Hk
  iexact H

/-- The load (its value unused) of row 0 of the maxima, before it is stored. -/
theorem row_load (c : Dev nD) (f : Vec F S8x128 .f32) {o : Fin 2 → ℕ} (ho : o = ![(0 : Fin 8).val, 0]) {inb} {hl}
    {α : Type} {Kt : α → sProp 𝕄} {k : Vec F S1x128 .f32 → Prog (TpuEff nD τ sig (Elt F) Λ₀ .tc) α} :
    rowPts c 0 fullShare f ⊢ iprop((∀ v, rowPts (F := F) c 0 fullShare f -∗ wp frame (wpE (defs₀ (F := F)) 𝒱₀ (c : Thread nD τ) none) Set.univ (k v) Kt)
      -∗ wp frame (wpE (defs₀ (F := F)) 𝒱₀ (c : Thread nD τ) none) Set.univ
          (.op (.load amM (Rect.unit (s := S8x128) o S1x128.size inb).toLoadRect hl) k) Kt) := by
  subst ho
  unfold rowPts
  iintro H Hk
  iapply (wp_load_rect 𝒱₀ (c : Thread nD τ) none Set.univ (m := amM) (r := Rect.unit (s := S8x128) ![(0 : Fin 8).val, 0] S1x128.size inb) (S := (rowM 0).view.set)
    (by rw [row_set]; exact Finset.subset_of_eq (View.set_slice_whole cc0_scratch3 _))) $$ H
  iintro H
  iapply Hk
  iexact H

/-- The store of the core's row of maxima into row 0. -/
theorem row_store (c : Dev nD) (f : Vec F S8x128 .f32) {v : Vec F S1x128 .f32} (hv : v = amv m ρ c) {o : Fin 2 → ℕ} (ho : o = ![(0 : Fin 8).val, 0]) {inb} {hx} {hm}
    {α : Type} {Kt : α → sProp 𝕄} {k : PUnit → Prog (TpuEff nD τ sig (Elt F) Λ₀ .tc) α} :
    rowPts c 0 fullShare f ⊢ iprop((rowPts (F := F) c 0 fullShare (AM m ρ c) -∗ wp frame (wpE (defs₀ (F := F)) 𝒱₀ (c : Thread nD τ) none) Set.univ (k ⟨⟩) Kt)
      -∗ wp frame (wpE (defs₀ (F := F)) 𝒱₀ (c : Thread nD τ) none) Set.univ
          (.op (.store amM (Rect.unit (s := S8x128) o S1x128.size inb) v Finset.univ hx hm) k) Kt) := by
  subst ho hv
  have e : (rowPts c 0 fullShare ((amM.access (Rect.unit (s := S8x128) ![(0 : Fin 8).val, 0] S1x128.size inb)).write (Elt F) f (amv m ρ c) Finset.univ) : sProp 𝕄)
      = rowPts c 0 fullShare (AM m ρ c) := rowPts_congr c 0 fullShare (by
    rw [row_read, back_zero]
    funext x
    exact congrFun (View.read_write_univ (v := amM.access (Rect.unit (s := S8x128) ![(0 : Fin 8).val, 0] S1x128.size inb)) f (amv m ρ c)) _)
  rw [← e]
  unfold rowPts
  iintro H Hk
  iapply (wp_store 𝒱₀ (c : Thread nD τ) none Set.univ (m := amM) (r := Rect.unit (s := S8x128) ![(0 : Fin 8).val, 0] S1x128.size inb) (Mk := Finset.univ) (S := (rowM 0).view.set)
    (by rw [row_set]; exact Finset.subset_of_eq (View.set_slice_whole cc0_scratch3 _))) $$ H
  iintro H
  iapply Hk
  iexact H

end Steps

end Cert.KProof
-- ==== Proof.Vocab.lean ====
/-
# `k`: the body's parts on the launch's buffers, and the names of what passes between them
-/
module

public import proofs.«01_k».proof.Proof.WPipe

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part of the body on the buffers and semaphores the launch gives it. -/
abbrev atArgs {β : Sort _}
    (f : (a0 : Memref sig .tc .vmem S4096x512 .f32) → a0.IsWhole → (a1 : Memref sig .tc .hbm S4096x2048 .f32) → a1.IsWhole
      → (a2 : Memref sig .tc .vmem S512x2048 .f32) → a2.IsWhole → (a3 : Memref sig .tc .vmem S4096x512 .bf16) → a3.IsWhole
      → (a4 : Memref sig .tc .vmem S8x512x512 .bf16) → a4.IsWhole → (a5 : Memref sig .tc .vmem S2x512x2048 .f32) → a5.IsWhole
      → (a6 : Memref sig .tc .vmem S8x128 .f32) → a6.IsWhole
      → DmaSems sig S8 → DmaSems sig S8 → DmaSems sig S8 → DmaSems sig S8 → DmaSems sig S2 → β) : β :=
  f xM (Memref.isWhole_whole _) wM (Memref.isWhole_whole _) oM (Memref.isWhole_whole _) xsM (Memref.isWhole_whole _) xgM (Memref.isWhole_whole _)
    wbM (Memref.isWhole_whole _) amM (Memref.isWhole_whole _) cc0_scratch4 cc0_scratch5 cc0_scratch6 cc0_scratch7 cc0_scratch8

/-- The weakest precondition of a program on core `c`. -/
abbrev wpc {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

/-- The slot and the row of the device `d` places on, which its barrier signal handed over. -/
def sl (c : Dev nD) (d : Fin 8) : sProp 𝕄 := iprop(∃ f, slotPts (F := F) (peer c d) d f)
/-- The row of maxima on the device at distance `d` which this device may fill. -/
def rows (c : Dev nD) (d : Fin 8) : sProp 𝕄 := iprop(∃ f, rowPts (F := F) (peer c d) d fullShare f)
/-- What the transfer of a block over distance `d` needs, but for the slot. -/
def XItem (c : Dev nD) (d : Fin 8) : sProp 𝕄 := iprop(xsPts m ρ c (peer c d) ∗ Toks 0 1 c d)
/-- The credit at the issuer's cell of a transfer under way. -/
def sent (f : Fin 4) (c : Dev nD) (d : Fin 8) : sProp 𝕄 := cred (tallyAt (xcell f c d) () (NF f))
/-- A transfer cell at rest, its counter zero. -/
def zero (f : Fin 4) (c : Dev nD) (d : Fin 8) : sProp 𝕄 := semVal (xcell f c d) 0

/-- The offsets of a whole two-dimensional buffer. -/
theorem hz2 : (![0, 0] : Fin 2 → Nat) = fun _ => 0 := funext fun a => by fin_cases a <;> rfl

end Cert.KProof
-- ==== Proof.Parts1.lean ====
/-
# `k`, first phase: the narrowing, the barrier, the seven block transfers, the first two copies of `w_mat`

Each part of the printed body, as a step from what it needs to what it leaves.
-/
module

public import proofs.«01_k».proof.Proof.Vocab

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CI → ℕ)

/-- Part 1: the column block is narrowed; four signals. -/
theorem part1 (c : Dev nD) {Kt : _ → sProp 𝕄} :
    Ctx m ρ K ⊢ iprop(ow c 0 -∗ ((c : Thread nD τ).loc cc0_stg0_0 ↦{fullShare} xstg m ρ c) -∗ (∃ f, (c : Thread nD τ).loc cc0_scratch0 ↦{fullShare} f)
      -∗ (SigItem c 1 ∗ SigItem c 2 ∗ SigItem c 3 ∗ SigItem c 4)
      -∗ (∀ v2 v26, (ow c 4 ∗ ((c : Thread nD τ).loc cc0_stg0_0 ↦{fullShare} xstg m ρ c) ∗ ((c : Thread nD τ).loc cc0_scratch0 ↦{fullShare} xs m ρ c))
          -∗ Kt ⟨c, v2, SemArray.scalar (sig.barrier 0 rfl), v26⟩)
      -∗ wpc c (atArgs (k0_part1 (F := F))) Kt) := by
  simp only [atArgs, wpc, k0_part1_eq_skeleton]; unfold k0_part1_skel
  simp only [semSignalWord, Prog.lift, Prog.bind_op, Prog.bind_ret, Prog.pure_eq_ret, wp_deviceId]
  iintro #HC Ho Hx ⟨%f, Hs⟩ ⟨H1, H2, H3, H4⟩ Hk
  iapply (wp_load 𝒱₀ (c : Thread nD τ) none Set.univ (m := xM) (Finset.subset_univ _)) $$ Hx; iintro Hx
  iapply (wp_load 𝒱₀ (c : Thread nD τ) none Set.univ (m := xsM) (Finset.subset_univ _)) $$ Hs; iintro Hs
  iapply (wp_store 𝒱₀ (c : Thread nD τ) none Set.univ (m := xsM) (r := Rect.unit (s := S4096x512) ![0, 0] S4096x512.size inb_S4096x512_S4096x512_0_0)
    (Mk := Finset.univ) (Finset.subset_univ _)) $$ Hs; iintro Hs
  iapply (sig_step m ρ K c _ 1 (by decide) (Fin.ext (k0_dev1_eq c)) 0 rfl) $$ HC Ho H1; iintro Ho
  iapply (sig_step m ρ K c _ 2 (by decide) (Fin.ext (k0_dev2_eq c)) 1 rfl) $$ HC Ho H2; iintro Ho
  iapply (sig_step m ρ K c _ 3 (by decide) (Fin.ext (k0_dev3_eq c)) 2 rfl) $$ HC Ho H3; iintro Ho
  iapply (sig_step m ρ K c _ 4 (by decide) (Fin.ext (k0_dev4_eq c)) 3 rfl) $$ HC Ho H4; iintro Ho
  rw [wp_ret]; imodintro
  iapply Hk
  isplitl [Ho]; · iexact Ho
  isplitl [Hx]; · iexact Hx
  have e : (xsM.access (Rect.unit (s := S4096x512) ![0, 0] S4096x512.size inb_S4096x512_S4096x512_0_0)).write (Elt F) f
      (k0_pay1 (xM.view.readAt (Elt F) (Rect.unit (s := S4096x512) ![0, 0] S4096x512.size inb_S4096x512_S4096x512_0_0).toLoadRect (xstg m ρ c))) Finset.univ = xs m ρ c :=
    (Memref.write_access_unit_zero_univ (Elt F) cc0_scratch0 hz2 _ f _).trans
      (congrArg k0_pay1 (Memref.readAt_unit_zero (Elt F) cc0_stg0_0 hz2 _ (xstg m ρ c)))
  rw [← e]
  iexact Hs

/-- Part 2: the last three signals, the wait for all seven, the first block transfer. -/
theorem part2 (c : Dev nD) (v2 v26 : BitVec 32) {Kt : _ → sProp 𝕄} :
    Ctx m ρ K ⊢ iprop(ow c 4 -∗ (SigItem c 5 ∗ SigItem c 6 ∗ SigItem c 7)
      -∗ (cred (tallyAt (barCell c) () 7) ∗ atPos ER (barCell c) 0 ∅ 0) -∗ XItem m ρ c 1
      -∗ (∀ v51 w, (ow c 8 ∗ semVal (barCell c) 0 ∗ sent 0 c 1 ∗ (sl c 2 ∗ sl c 3 ∗ sl c 4 ∗ sl c 5 ∗ sl c 6 ∗ sl c 7) ∗ seven (rows c)) -∗ Kt ⟨v51, w⟩)
      -∗ wpc c (atArgs (k0_part2 (F := F)) c v2 (SemArray.scalar (sig.barrier 0 rfl)) v26) Kt) := by
  simp only [atArgs, wpc, k0_part2_eq_skeleton]; unfold k0_part2_skel
  simp only [semSignalWord, semWaitWord, Prog.lift, Prog.bind_op, Prog.bind_ret, Prog.pure_eq_ret]
  unfold XItem
  iintro #HC Ho ⟨H5, H6, H7⟩ Hb ⟨Hx, Ht⟩ Hk
  iapply (sig_step m ρ K c _ 5 (by decide) (Fin.ext (k0_dev5_eq c)) 4 rfl) $$ HC Ho H5; iintro Ho
  iapply (sig_step m ρ K c _ 6 (by decide) (Fin.ext (k0_dev6_eq c)) 5 rfl) $$ HC Ho H6; iintro Ho
  iapply (sig_step m ρ K c _ 7 (by decide) (Fin.ext (k0_dev7_eq c)) 6 rfl) $$ HC Ho H7; iintro Ho
  iapply (bar_wait m ρ K c) $$ HC Ho Hb
  unfold barPay
  iintro ⟨Ho, Hb, ⟨S1, R1⟩, ⟨S2, R2⟩, ⟨S3, R3⟩, ⟨S4, R4⟩, ⟨S5, R5⟩, ⟨S6, R6⟩, ⟨S7, R7⟩⟩
  iapply (x_send m ρ K c _ 1 (by decide) (Fin.ext (k0_dev8_eq c)) 7 rfl (Memref.slice_unit_congr _ (k0_off1_eq c 0) _ _ _ _) rfl rfl rfl) $$ HC Ho Hx S1 Ht
  iintro ⟨Ho, Hc⟩
  rw [wp_ret]; imodintro
  iapply Hk
  unfold sent sl rows
  dsimp only [seven]
  iframe ∗

/-- Part 3: the transfers over distances 2 and 3. -/
theorem part3 (c : Dev nD) (v2 v51 w : BitVec 32) {Kt : _ → sProp 𝕄} :
    Ctx m ρ K ⊢ iprop(ow c 8 -∗ (sl c 2 ∗ XItem m ρ c 2) -∗ (sl c 3 ∗ XItem m ρ c 3)
      -∗ ((ow c 10 ∗ sent 0 c 2 ∗ sent 0 c 3) -∗ Kt ⟨⟩)
      -∗ wpc c (atArgs (k0_part3 (F := F)) c v2 v51 w) Kt) := by
  simp only [atArgs, wpc, k0_part3_eq_skeleton]; unfold k0_part3_skel
  simp only [Prog.lift, Prog.bind_op, Prog.bind_ret, Prog.pure_eq_ret]
  unfold XItem sl sent
  iintro #HC Ho ⟨S2, X2, T2⟩ ⟨S3, X3, T3⟩ Hk
  iapply (x_send m ρ K c _ 2 (by decide) (Fin.ext (k0_dev9_eq c)) 8 rfl (Memref.slice_unit_congr _ (k0_off1_eq c 1) _ _ _ _) rfl rfl rfl) $$ HC Ho X2 S2 T2
  iintro ⟨Ho, C2⟩
  iapply (x_send m ρ K c _ 3 (by decide) (Fin.ext (k0_dev10_eq c)) 9 rfl (Memref.slice_unit_congr _ (k0_off1_eq c 2) _ _ _ _) rfl rfl rfl) $$ HC Ho X3 S3 T3
  iintro ⟨Ho, C3⟩
  rw [wp_ret]; imodintro
  iapply Hk
  iframe ∗

/-- Part 4: the transfers over distances 4 to 6. -/
theorem part4 (c : Dev nD) (v2 : BitVec 32) {Kt : _ → sProp 𝕄} :
    Ctx m ρ K ⊢ iprop(ow c 10 -∗ (sl c 4 ∗ XItem m ρ c 4) -∗ (sl c 5 ∗ XItem m ρ c 5) -∗ (sl c 6 ∗ XItem m ρ c 6)
      -∗ (∀ v111 w, (ow c 13 ∗ sent 0 c 4 ∗ sent 0 c 5 ∗ sent 0 c 6) -∗ Kt ⟨v111, w⟩)
      -∗ wpc c (atArgs (k0_part4 (F := F)) c v2) Kt) := by
  simp only [atArgs, wpc, k0_part4_eq_skeleton]; unfold k0_part4_skel
  simp only [Prog.lift, Prog.bind_op, Prog.bind_ret, Prog.pure_eq_ret]
  unfold XItem sl sent
  iintro #HC Ho ⟨S4, X4, T4⟩ ⟨S5, X5, T5⟩ ⟨S6, X6, T6⟩ Hk
  iapply (x_send m ρ K c _ 4 (by decide) (Fin.ext (k0_dev11_eq c)) 10 rfl (Memref.slice_unit_congr _ (k0_off1_eq c 3) _ _ _ _) rfl rfl rfl) $$ HC Ho X4 S4 T4
  iintro ⟨Ho, C4⟩
  iapply (x_send m ρ K c _ 5 (by decide) (Fin.ext (k0_dev12_eq c)) 11 rfl (Memref.slice_unit_congr _ (k0_off1_eq c 4) _ _ _ _) rfl rfl rfl) $$ HC Ho X5 S5 T5
  iintro ⟨Ho, C5⟩
  iapply (x_send m ρ K c _ 6 (by decide) (Fin.ext (k0_dev13_eq c)) 12 rfl (Memref.slice_unit_congr _ (k0_off1_eq c 5) _ _ _ _) rfl rfl rfl) $$ HC Ho X6 S6 T6
  iintro ⟨Ho, C6⟩
  rw [wp_ret]; imodintro
  iapply Hk
  iframe ∗

/-- Part 5: the transfer over distance 7; the core's own block of `w_mat` and the one before start into the two slots. -/
theorem part5 (c : Dev nD) (v2 v111 w : BitVec 32) {Kt : _ → sProp 𝕄} :
    Ctx m ρ K ⊢ iprop(ow c 13 -∗ (sl c 7 ∗ XItem m ρ c 7) -∗ wFree m c 0 -∗ wFree m c 1
      -∗ ((ow c 14 ∗ sent 0 c 7 ∗ wFly m c 0 c ∗ wFly m c 1 (back c 1)) -∗ Kt (Y m ρ c 0))
      -∗ wpc c (atArgs (k0_part5 (F := F)) c v2 v111 w) Kt) := by
  simp only [atArgs, wpc, k0_part5_eq_skeleton]; unfold k0_part5_skel
  simp only [Prog.lift, Prog.bind_op, Prog.bind_ret, Prog.pure_eq_ret]
  unfold XItem sl sent
  iintro #HC Ho ⟨S7, X7, T7⟩ W0 W1 Hk
  iapply (x_send m ρ K c _ 7 (by decide) (Fin.ext (k0_dev14_eq c)) 13 rfl (Memref.slice_unit_congr _ (k0_off1_eq c 6) _ _ _ _) rfl rfl rfl) $$ HC Ho X7 S7 T7
  iintro ⟨Ho, C7⟩
  iapply (w_issue m c 0 c (Memref.slice_unit_congr _ (k0_off2_eq c) _ _ _ _) rfl rfl) $$ W0
  iintro W0
  iapply (w_issue m c 1 (back c 1) (Memref.slice_unit_congr _ (k0_off3_eq c 0) _ _ _ _) rfl rfl) $$ W1
  iintro W1
  rw [wp_ret, show (k0_pay2 : FVec F S512x2048 .f32) = Y m ρ c 0 from rfl]; imodintro
  iapply Hk
  iframe ∗

end Parts

end Cert.KProof
-- ==== Proof.Parts2.lean ====
/-
# `k`, second phase: the product, one block after the other

For each distance the block received and the block of `w_mat` are waited for, loaded and multiplied into the product so far.
-/
module

public import proofs.«01_k».proof.Proof.Vocab

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One more block multiplied in, from the loaded forms of the blocks. -/
theorem step_eq (c : Dev nD) (n : ℕ) {v : Vec F S1x512x512 .bf16} {w : Vec F S1x512x2048 .f32}
    (hv : shapeCast S512x512 v shapeCasts_S1x512x512_S512x512 = xblk m ρ (back c (Fin.ofNat 8 n)) c)
    (hw : shapeCast S512x2048 w shapeCasts_S1x512x2048_S512x2048 = wblk m c (back c (Fin.ofNat 8 n))) :
    stepY (Y m ρ c n) (shapeCast S512x512 v shapeCasts_S1x512x512_S512x512) (shapeCast S512x2048 w shapeCasts_S1x512x2048_S512x2048) = Y m ρ c (n + 1) := by
  rw [hv, hw]; rfl

section Parts

variable (K : Dev nD × CI → ℕ)

/-- Waiting for a block is allowed with the debts that remain then. -/
theorem lv_recv (d : Fin 8) : ∀ x ∈ debtLv 14, lvS (.dma (xsem 1 d)) < x := by revert d; decide
/-- Waiting for a row block of the second operand is allowed with the debts that remain then. -/
theorem lv_w (s : Fin 2) : ∀ x ∈ debtLv 14, lvS (.dma (wsem s)) < x := by revert s; decide

/-- The four steps in a row of most parts: the two waits, and the two loads. -/
theorem block_in (c : Dev nD) (d : Fin 8) (s : Fin 2) (j : Fin 8)
    {sr sw : DmaSem sig} (hsr : sr = xsem 1 d) (hsw : sw = wsem s)
    {sp₁ sp₂ sp₃ sp₄ : Space} {t₁ t₂ t₃ t₄ : Shape} {e₁ e₂ e₃ e₄ : EltTy} {κ₁ κ₂ : Kind}
    {src₁ : Memref sig .tc sp₁ t₁ e₁} {dst₁ : Memref sig κ₁ sp₂ t₂ e₂} {h₁ : src₁.view.WordExact} {h₂ : dst₁.view.WordExact}
    {src₂ : Memref sig .tc sp₃ t₃ e₃} {dst₂ : Memref sig κ₂ sp₄ t₄ e₄} {h₃ : src₂.view.WordExact} {h₄ : dst₂.view.WordExact}
    (hN₁ : dst₁.view.dmaCredit = NX) (hN₂ : dst₂.view.dmaCredit = NW) (hd : d ≠ 0)
    {o₁ o₂ : Fin 3 → ℕ} (ho₁ : o₁ = ![d.val, 0, 0]) (ho₂ : o₂ = ![s.val, 0, 0]) {inb₁ inb₂} {hl₁} {hl₂}
    {α : Type} {Kt : α → sProp 𝕄} {k : Vec F S1x512x512 .bf16 → Vec F S1x512x2048 .f32 → Prog (TpuEff nD τ sig (Elt F) Λ₀ .tc) α} :
    Ctx m ρ K ⊢ iprop(ow c 14 -∗ WaitItem 1 c d -∗ wFly m c s j
      -∗ (∀ v w, ⌜shapeCast S512x512 v shapeCasts_S1x512x512_S512x512 = xblk m ρ (back c d) c⌝
          -∗ ⌜shapeCast S512x2048 w shapeCasts_S1x512x2048_S512x2048 = wblk m c j⌝
          -∗ (ow c 14 ∗ slotPts c d (XG m ρ c) ∗ zero 1 c d ∗ wHave m c s j) -∗ wp frame (wpE (defs₀ (F := F)) 𝒱₀ (c : Thread nD τ) none) Set.univ (k v w) Kt)
      -∗ wp frame (wpE (defs₀ (F := F)) 𝒱₀ (c : Thread nD τ) none) Set.univ (.op (.waitDma2 sr src₁ dst₁ h₁ h₂) fun _ => .op (.waitDma2 sw src₂ dst₂ h₃ h₄) fun _ =>
          .op (.load xgM (Rect.unit (s := S8x512x512) o₁ S1x512x512.size inb₁).toLoadRect hl₁) fun v =>
          .op (.load wbM (Rect.unit (s := S2x512x2048) o₂ S1x512x2048.size inb₂).toLoadRect hl₂) (k v)) Kt) := by
  unfold zero
  iintro #HC Ho Hr Hw Hk
  iapply (x_wait m ρ K c 1 d hd 14 (lv_recv d) hsr hN₁) $$ HC Ho Hr
  iintro ⟨Ho, Hs, Hz⟩
  iapply (w_wait m ρ K c s j 14 (lv_w s) hsw hN₂) $$ HC Ho Hw
  iintro ⟨Ho, Hw⟩
  ihave Hs := (show famPay m ρ (1 : Fin 4).val c d ⊢ slotPts c d (XG m ρ c) from Entails.of_eq rfl) $$ Hs
  iapply (slot_load m ρ c d ho₁) $$ Hs
  iintro %v %hv Hs
  iapply (w_load m c s j ho₂) $$ Hw
  iintro %w %hw Hw
  iapply Hk
  · ipureintro; exact hv
  · ipureintro; exact hw
  iframe ∗

/-- Part 6: the core's own block, multiplied in; the third copy of a block of `w_mat` starts; the block from one place back is awaited. -/
theorem part6 (c : Dev nD) (v2 : BitVec 32) {Kt : _ → sProp 𝕄} :
    Ctx m ρ K ⊢ iprop(ow c 14 -∗ wFly m c 0 c -∗ xsPts m ρ c c -∗ WaitItem 1 c 1
      -∗ (∀ v168 w, (ow c 14 ∗ wFly m c 0 (back c 2) ∗ xsPts m ρ c c ∗ slotPts c 1 (XG m ρ c) ∗ zero 1 c 1) -∗ Kt ⟨Y m ρ c 1, v168, w⟩)
      -∗ wpc c (atArgs (k0_part6 (F := F)) c v2 (Y m ρ c 0)) Kt) := by
  simp only [atArgs, wpc, k0_part6_eq_skeleton]; unfold k0_part6_skel
  simp only [Prog.lift, Prog.bind_op, Prog.bind_ret, Prog.pure_eq_ret]
  iintro #HC Ho Hw Hx Hr Hk
  iapply (w_wait m ρ K c 0 c 14 (lv_w 0) rfl (wSl_credit 0)) $$ HC Ho Hw
  iintro ⟨Ho, Hw⟩
  iapply (own_load m ρ c c (k0_off4_eq c)) $$ Hx
  iintro Hx
  iapply (w_load m c 0 c rfl) $$ Hw
  iintro %w %hw Hw
  ihave Hw := (wHave_free m c 0 c) $$ Hw
  iapply (w_issue m c 0 (back c 2) (Memref.slice_unit_congr _ (k0_off3_eq c 1) _ _ _ _) rfl rfl) $$ Hw
  iintro Hw
  iapply (x_wait m ρ K c 1 1 (by decide) 14 (lv_recv 1) rfl (slot_credit 1)) $$ HC Ho Hr
  iintro ⟨Ho, Hs, Hz⟩
  have e : k0_pay3 (Y m ρ c 0) (xblk m ρ c c) w = Y m ρ c 1 := by
    show stepY (Y m ρ c 0) (xblk m ρ c c) (shapeCast S512x2048 w shapeCasts_S1x512x2048_S512x2048) = stepY (Y m ρ c 0) (xblk m ρ (back c 0) c) (wblk m c (back c 0))
    rw [hw, back_zero]
  rw [wp_ret, e]; imodintro
  ihave Hs := (show famPay m ρ (1 : Fin 4).val c 1 ⊢ slotPts c 1 (XG m ρ c) from Entails.of_eq rfl) $$ Hs
  iapply Hk
  unfold zero
  iframe ∗

/-- Part 7: the block from one place back, multiplied in; the next copy starts. -/
theorem part7 (c : Dev nD) (v2 v168 w : BitVec 32) {Kt : _ → sProp 𝕄} :
    Ctx m ρ K ⊢ iprop(ow c 14 -∗ wFly m c 1 (back c 1) -∗ slotPts c 1 (XG m ρ c)
      -∗ ((ow c 14 ∗ wFly m c 1 (back c 3) ∗ slotPts c 1 (XG m ρ c)) -∗ Kt (Y m ρ c 2))
      -∗ wpc c (atArgs (k0_part7 (F := F)) c v2 (Y m ρ c 1) v168 w) Kt) := by
  simp only [atArgs, wpc, k0_part7_eq_skeleton]; unfold k0_part7_skel
  simp only [Prog.lift, Prog.bind_op, Prog.bind_ret, Prog.pure_eq_ret]
  iintro #HC Ho Hw Hs Hk
  iapply (w_wait m ρ K c 1 (back c 1) 14 (lv_w 1) rfl (wSl_credit 1)) $$ HC Ho Hw
  iintro ⟨Ho, Hw⟩
  iapply (slot_load m ρ c 1 rfl) $$ Hs
  iintro %v %hv Hs
  iapply (w_load m c 1 (back c 1) rfl) $$ Hw
  iintro %w %hw Hw
  ihave Hw := (wHave_free m c 1 (back c 1)) $$ Hw
  iapply (w_issue m c 1 (back c 3) (Memref.slice_unit_congr _ (k0_off3_eq c 2) _ _ _ _) rfl rfl) $$ Hw
  iintro Hw
  rw [wp_ret, show k0_pay4 (Y m ρ c 1) v w = Y m ρ c 2 from step_eq m ρ c 1 hv hw]; imodintro
  iapply Hk
  iframe ∗

/-- Part 8: the block from two places back; the next copy starts. -/
theorem part8 (c : Dev nD) (v2 : BitVec 32) {Kt : _ → sProp 𝕄} :
    Ctx m ρ K ⊢ iprop(ow c 14 -∗ WaitItem 1 c 2 -∗ wFly m c 0 (back c 2)
      -∗ (∀ v222 w, (ow c 14 ∗ wFly m c 0 (back c 4) ∗ slotPts c 2 (XG m ρ c) ∗ zero 1 c 2) -∗ Kt ⟨Y m ρ c 3, v222, w⟩)
      -∗ wpc c (atArgs (k0_part8 (F := F)) c v2 (Y m ρ c 2)) Kt) := by
  simp only [atArgs, wpc, k0_part8_eq_skeleton]; unfold k0_part8_skel
  simp only [Prog.lift, Prog.bind_op, Prog.bind_ret, Prog.pure_eq_ret]
  iintro #HC Ho Hr Hw Hk
  iapply (block_in m ρ K c 2 0 (back c 2) rfl rfl (slot_credit 2) (wSl_credit 0) (by decide) rfl rfl) $$ HC Ho Hr Hw
  iintro %v %w %hv %hw ⟨Ho, Hs, Hz, Hw⟩
  ihave Hw := (wHave_free m c 0 (back c 2)) $$ Hw
  iapply (w_issue m c 0 (back c 4) (Memref.slice_unit_congr _ (k0_off3_eq c 3) _ _ _ _) rfl rfl) $$ Hw
  iintro Hw
  rw [wp_ret, show k0_pay5 (Y m ρ c 2) v w = Y m ρ c 3 from step_eq m ρ c 2 hv hw]; imodintro
  iapply Hk
  iframe ∗

/-- Part 9: the block from three places back. -/
theorem part9 (c : Dev nD) (v2 v222 w : BitVec 32) {Kt : _ → sProp 𝕄} :
    Ctx m ρ K ⊢ iprop(ow c 14 -∗ WaitItem 1 c 3 -∗ wFly m c 1 (back c 3)
      -∗ ((ow c 14 ∗ wFree m c 1 ∗ slotPts c 3 (XG m ρ c) ∗ zero 1 c 3) -∗ Kt (Y m ρ c 4))
      -∗ wpc c (atArgs (k0_part9 (F := F)) c v2 (Y m ρ c 3) v222 w) Kt) := by
  simp only [atArgs, wpc, k0_part9_eq_skeleton]; unfold k0_part9_skel
  simp only [Prog.lift, Prog.bind_op, Prog.bind_ret, Prog.pure_eq_ret]
  iintro #HC Ho Hr Hw Hk
  iapply (block_in m ρ K c 3 1 (back c 3) rfl rfl (slot_credit 3) (wSl_credit 1) (by decide) rfl rfl) $$ HC Ho Hr Hw
  iintro %v %w %hv %hw ⟨Ho, Hs, Hz, Hw⟩
  ihave Hw := (wHave_free m c 1 (back c 3)) $$ Hw
  rw [wp_ret, show k0_pay6 (Y m ρ c 3) v w = Y m ρ c 4 from step_eq m ρ c 3 hv hw]; imodintro
  iapply Hk
  iframe ∗

/-- Part 10: the next copy starts; the block from four places back. -/
theorem part10 (c : Dev nD) (v2 : BitVec 32) {Kt : _ → sProp 𝕄} :
    Ctx m ρ K ⊢ iprop(ow c 14 -∗ wFree m c 1 -∗ WaitItem 1 c 4 -∗ wFly m c 0 (back c 4)
      -∗ ((ow c 14 ∗ wFly m c 1 (back c 5) ∗ wFree m c 0 ∗ slotPts c 4 (XG m ρ c) ∗ zero 1 c 4) -∗ Kt (Y m ρ c 5))
      -∗ wpc c (atArgs (k0_part10 (F := F)) c v2 (Y m ρ c 4)) Kt) := by
  simp only [atArgs, wpc, k0_part10_eq_skeleton]; unfold k0_part10_skel
  simp only [Prog.lift, Prog.bind_op, Prog.bind_ret, Prog.pure_eq_ret]
  iintro #HC Ho Hf Hr Hw Hk
  iapply (w_issue m c 1 (back c 5) (Memref.slice_unit_congr _ (k0_off3_eq c 4) _ _ _ _) rfl rfl) $$ Hf
  iintro Hf
  iapply (block_in m ρ K c 4 0 (back c 4) rfl rfl (slot_credit 4) (wSl_credit 0) (by decide) rfl rfl) $$ HC Ho Hr Hw
  iintro %v %w %hv %hw ⟨Ho, Hs, Hz, Hw⟩
  ihave Hw := (wHave_free m c 0 (back c 4)) $$ Hw
  rw [wp_ret, show k0_pay7 (Y m ρ c 4) v w = Y m ρ c 5 from step_eq m ρ c 4 hv hw]; imodintro
  iapply Hk
  iframe ∗

/-- Part 11: the next copy starts; the block from five places back. -/
theorem part11 (c : Dev nD) (v2 : BitVec 32) {Kt : _ → sProp 𝕄} :
    Ctx m ρ K ⊢ iprop(ow c 14 -∗ wFree m c 0 -∗ WaitItem 1 c 5 -∗ wFly m c 1 (back c 5)
      -∗ (∀ w, (ow c 14 ∗ wFly m c 0 (back c 6) ∗ wFree m c 1 ∗ slotPts c 5 (XG m ρ c) ∗ zero 1 c 5) -∗ Kt ⟨Y m ρ c 6, w⟩)
      -∗ wpc c (atArgs (k0_part11 (F := F)) c v2 (Y m ρ c 5)) Kt) := by
  simp only [atArgs, wpc, k0_part11_eq_skeleton]; unfold k0_part11_skel
  simp only [Prog.lift, Prog.bind_op, Prog.bind_ret, Prog.pure_eq_ret]
  iintro #HC Ho Hf Hr Hw Hk
  iapply (w_issue m c 0 (back c 6) (Memref.slice_unit_congr _ (k0_off3_eq c 5) _ _ _ _) rfl rfl) $$ Hf
  iintro Hf
  iapply (block_in m ρ K c 5 1 (back c 5) rfl rfl (slot_credit 5) (wSl_credit 1) (by decide) rfl rfl) $$ HC Ho Hr Hw
  iintro %v %w %hv %hw ⟨Ho, Hs, Hz, Hw⟩
  ihave Hw := (wHave_free m c 1 (back c 5)) $$ Hw
  rw [wp_ret, show k0_pay8 (Y m ρ c 5) v w = Y m ρ c 6 from step_eq m ρ c 5 hv hw]; imodintro
  iapply Hk
  iframe ∗

/-- Part 12: the last copy starts; the block from six places back is there and loaded. -/
theorem part12 (c : Dev nD) (v2 w : BitVec 32) {Kt : _ → sProp 𝕄} :
    Ctx m ρ K ⊢ iprop(ow c 14 -∗ wFree m c 1 -∗ WaitItem 1 c 6 -∗ wFly m c 0 (back c 6)
      -∗ ((ow c 14 ∗ wFly m c 1 (back c 7) ∗ wHave m c 0 (back c 6) ∗ slotPts c 6 (XG m ρ c) ∗ zero 1 c 6) -∗ Kt (xblk m ρ (back c 6) c))
      -∗ wpc c (atArgs (k0_part12 (F := F)) c v2 w) Kt) := by
  simp only [atArgs, wpc, k0_part12_eq_skeleton]; unfold k0_part12_skel
  simp only [Prog.lift, Prog.bind_op, Prog.bind_ret, Prog.pure_eq_ret]
  iintro #HC Ho Hf Hr Hw Hk
  iapply (w_issue m c 1 (back c 7) (Memref.slice_unit_congr _ (k0_off3_eq c 6) _ _ _ _) rfl rfl) $$ Hf
  iintro Hf
  iapply (x_wait m ρ K c 1 6 (by decide) 14 (lv_recv 6) rfl (slot_credit 6)) $$ HC Ho Hr
  iintro ⟨Ho, Hs, Hz⟩
  iapply (w_wait m ρ K c 0 (back c 6) 14 (lv_w 0) rfl (wSl_credit 0)) $$ HC Ho Hw
  iintro ⟨Ho, Hw⟩
  ihave Hs := (show famPay m ρ (1 : Fin 4).val c 6 ⊢ slotPts c 6 (XG m ρ c) from Entails.of_eq rfl) $$ Hs
  iapply (slot_load m ρ c 6 rfl) $$ Hs
  iintro %v %hv Hs
  rw [wp_ret, show k0_pay9 v = xblk m ρ (back c 6) c from hv]; imodintro
  iapply Hk
  unfold zero
  iframe ∗

/-- Part 13: the last two blocks, multiplied in, and the largest magnitude of the product. -/
theorem part13 (c : Dev nD) (v2 : BitVec 32) {Kt : _ → sProp 𝕄} :
    Ctx m ρ K ⊢ iprop(ow c 14 -∗ wHave m c 0 (back c 6) -∗ WaitItem 1 c 7 -∗ wFly m c 1 (back c 7)
      -∗ (∀ v361, ⌜k0_pay12 v361 = amv m ρ c⌝ -∗ (ow c 14 ∗ wFree m c 0 ∗ wFree m c 1 ∗ slotPts c 7 (XG m ρ c) ∗ zero 1 c 7) -∗ Kt ⟨Y m ρ c 8, v361⟩)
      -∗ wpc c (atArgs (k0_part13 (F := F)) c v2 (Y m ρ c 6) (xblk m ρ (back c 6) c)) Kt) := by
  simp only [atArgs, wpc, k0_part13_eq_skeleton]; unfold k0_part13_skel
  simp only [Prog.lift, Prog.bind_op, Prog.bind_ret, Prog.pure_eq_ret]
  iintro #HC Ho Hh Hr Hw Hk
  iapply (w_load m c 0 (back c 6) rfl) $$ Hh
  iintro %w₀ %hw₀ Hh
  iapply (block_in m ρ K c 7 1 (back c 7) rfl rfl (slot_credit 7) (wSl_credit 1) (by decide) rfl rfl) $$ HC Ho Hr Hw
  iintro %v %w %hv %hw ⟨Ho, Hs, Hz, Hw⟩
  ihave Hw := (wHave_free m c 1 (back c 7)) $$ Hw
  ihave Hh := (wHave_free m c 0 (back c 6)) $$ Hh
  have e : k0_pay10 (Y m ρ c 6) (xblk m ρ (back c 6) c) w₀ v w = Y m ρ c 8 := by
    show stepY (stepY (Y m ρ c 6) (xblk m ρ (back c 6) c) (shapeCast S512x2048 w₀ shapeCasts_S1x512x2048_S512x2048))
      (shapeCast S512x512 v shapeCasts_S1x512x512_S512x512) (shapeCast S512x2048 w shapeCasts_S1x512x2048_S512x2048) = _
    rw [hw₀]; exact step_eq m ρ c 7 hv hw
  have e' : k0_pay12 (k0_pay11 (Y m ρ c 6) (xblk m ρ (back c 6) c) w₀ v w) = amv m ρ c := by
    show amrow (k0_pay10 (Y m ρ c 6) (xblk m ρ (back c 6) c) w₀ v w) = _
    rw [e]; rfl
  rw [wp_ret, e]; imodintro
  iapply Hk
  · ipureintro; exact e'
  iframe ∗

end Parts

end Cert.KProof
-- ==== Proof.Parts3.lean ====
/-
# `k`, third phase: the maxima sent round, the result, and the end of every transfer
-/
module

public import proofs.«01_k».proof.Proof.Vocab

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the maxima, and the share of all of them that the load reads -/

/-- What is left of row `d` beside the share the load reads. -/
def restRow (c : Dev nD) (d : Fin 8) : sProp 𝕄 := bigSep (Finset.univ.erase (0 : Fin 8)) fun k => rowPts (F := F) c d (eighth k) (AM m ρ c)

/-- A device's whole row is one eighth of it and the rest. -/
theorem row_open (c : Dev nD) (d : Fin 8) :
    (rowPts c d fullShare (AM m ρ c) : sProp 𝕄) = iprop(rowPts c d (eighth 0) (AM m ρ c) ∗ restRow m ρ c d) := by
  rw [row_leaves]; exact bigSep_erase (Finset.mem_univ (0 : Fin 8))

/-- One share of row 0 and the seven other rows are one share of the whole and the rest. -/
theorem rows_open (c : Dev nD) :
    (iprop(rowPts c 0 (eighth 0) (AM m ρ c) ∗ bigSep (Finset.univ.erase (0 : Fin 8)) fun d => rowPts (F := F) c d fullShare (AM m ρ c)) : sProp 𝕄)
      = iprop(((c : Thread nD τ).loc cc0_scratch3 ↦{eighth 0} AM m ρ c) ∗ bigSep (Finset.univ.erase (0 : Fin 8)) (restRow m ρ c)) := by
  rw [rows_split, show (bigSep Finset.univ (fun j => rowPts c j (eighth 0) (AM m ρ c)) : sProp 𝕄)
      = iprop(rowPts c 0 (eighth 0) (AM m ρ c) ∗ bigSep (Finset.univ.erase (0 : Fin 8)) fun j => rowPts c j (eighth 0) (AM m ρ c)) from bigSep_erase (Finset.mem_univ (0 : Fin 8)),
    bigSep_congr (fun d _ => row_open m ρ c d),
    show (bigSep (Finset.univ.erase (0 : Fin 8)) (fun d => iprop(rowPts c d (eighth 0) (AM m ρ c) ∗ restRow m ρ c d)) : sProp 𝕄)
      = iprop((bigSep (Finset.univ.erase (0 : Fin 8)) fun j => rowPts c j (eighth 0) (AM m ρ c)) ∗ bigSep (Finset.univ.erase (0 : Fin 8)) (restRow m ρ c)) from bigSep_sep _ _ _]
  exact (Std.Associative.assoc (op := fun P Q : sProp 𝕄 => BI.sep P Q) _ _ _).symm

section Parts

variable (K : Dev nD × CI → ℕ)

/-- What the transfer of the row of maxima over distance `d` needs, but for the share of the row. -/
def AItem (c : Dev nD) (d : Fin 8) : sProp 𝕄 := iprop(rows c d ∗ Toks 2 3 c d)
/-- The share of the row it takes. -/
def sh (c : Dev nD) (d : Fin 8) : sProp 𝕄 := rowPts (F := F) c 0 (eighth d) (AM m ρ c)

/-- With no debt left every wait is allowed. -/
theorem lv_end (f : Fin 4) (d : Fin 8) : ∀ x ∈ debtLv 21, lvS (.dma (xsem f d)) < x := by revert f d; decide

/-- Part 14: the core's row of maxima stored; the transfers of it over distances 1 and 2. -/
theorem part14 (c : Dev nD) (v2 : BitVec 32) (v361 : FVec F S1 .f32) (hv : k0_pay12 v361 = amv m ρ c) {Kt : _ → sProp 𝕄} :
    Ctx m ρ K ⊢ iprop(ow c 14 -∗ (∃ f, rowPts c 0 fullShare f) -∗ AItem c 1 -∗ AItem c 2
      -∗ (∀ v393, (ow c 16 ∗ sent 2 c 1 ∗ sent 2 c 2 ∗ sh m ρ c 0 ∗ (sh m ρ c 3 ∗ sh m ρ c 4 ∗ sh m ρ c 5 ∗ sh m ρ c 6 ∗ sh m ρ c 7)) -∗ Kt v393)
      -∗ wpc c (atArgs (k0_part14 (F := F)) c v2 v361) Kt) := by
  simp only [atArgs, wpc, k0_part14_eq_skeleton]; unfold k0_part14_skel
  simp only [Prog.lift, Prog.bind_op, Prog.bind_ret, Prog.pure_eq_ret]
  unfold AItem rows sent
  iintro #HC Ho ⟨%f, Hr⟩ ⟨R1, T1⟩ ⟨R2, T2⟩ Hk
  iapply (row_load c f rfl) $$ Hr
  iintro %v Hr
  iapply (row_store m ρ c f hv rfl) $$ Hr
  iintro Hr
  have e : (rowPts c 0 fullShare (AM m ρ c) : sProp 𝕄) = iprop(sh m ρ c 0 ∗ seven (sh m ρ c)) := by
    rw [row_open, restRow, bigSep_seven]; rfl
  ihave Hr := (Entails.of_eq e) $$ Hr
  icases Hr with ⟨S0, S1, S2, S3, S4, S5, S6, S7⟩
  unfold sh
  iapply (a_send m ρ K c _ 1 (by decide) (Fin.ext (k0_dev15_eq c)) 14 rfl rfl rfl rfl rfl) $$ HC Ho S1 R1 T1
  iintro ⟨Ho, C1⟩
  iapply (a_send m ρ K c _ 2 (by decide) (Fin.ext (k0_dev16_eq c)) 15 rfl rfl rfl rfl rfl) $$ HC Ho S2 R2 T2
  iintro ⟨Ho, C2⟩
  rw [wp_ret]; imodintro
  iapply Hk
  iframe ∗

/-- Part 15: the transfers of the row over distances 3 and 4. -/
theorem part15 (c : Dev nD) (v2 v393 : BitVec 32) {Kt : _ → sProp 𝕄} :
    Ctx m ρ K ⊢ iprop(ow c 16 -∗ (sh m ρ c 3 ∗ AItem c 3) -∗ (sh m ρ c 4 ∗ AItem c 4)
      -∗ ((ow c 18 ∗ sent 2 c 3 ∗ sent 2 c 4) -∗ Kt ⟨⟩)
      -∗ wpc c (atArgs (k0_part15 (F := F)) c v2 v393) Kt) := by
  simp only [atArgs, wpc, k0_part15_eq_skeleton]; unfold k0_part15_skel
  simp only [Prog.lift, Prog.bind_op, Prog.bind_ret, Prog.pure_eq_ret]
  unfold AItem rows sent sh
  iintro #HC Ho ⟨S3, R3, T3⟩ ⟨S4, R4, T4⟩ Hk
  iapply (a_send m ρ K c _ 3 (by decide) (Fin.ext (k0_dev17_eq c)) 16 rfl rfl rfl rfl rfl) $$ HC Ho S3 R3 T3
  iintro ⟨Ho, C3⟩
  iapply (a_send m ρ K c _ 4 (by decide) (Fin.ext (k0_dev18_eq c)) 17 rfl rfl rfl rfl rfl) $$ HC Ho S4 R4 T4
  iintro ⟨Ho, C4⟩
  rw [wp_ret]; imodintro
  iapply Hk
  iframe ∗

/-- Part 16: the transfers of the row over distances 5 to 7. -/
theorem part16 (c : Dev nD) (v2 : BitVec 32) {Kt : _ → sProp 𝕄} :
    Ctx m ρ K ⊢ iprop(ow c 18 -∗ (sh m ρ c 5 ∗ AItem c 5) -∗ (sh m ρ c 6 ∗ AItem c 6) -∗ (sh m ρ c 7 ∗ AItem c 7)
      -∗ ((ow c 21 ∗ sent 2 c 5 ∗ sent 2 c 6 ∗ sent 2 c 7) -∗ Kt ⟨⟩)
      -∗ wpc c (atArgs (k0_part16 (F := F)) c v2) Kt) := by
  simp only [atArgs, wpc, k0_part16_eq_skeleton]; unfold k0_part16_skel
  simp only [Prog.lift, Prog.bind_op, Prog.bind_ret, Prog.pure_eq_ret]
  unfold AItem rows sent sh
  iintro #HC Ho ⟨S5, R5, T5⟩ ⟨S6, R6, T6⟩ ⟨S7, R7, T7⟩ Hk
  iapply (a_send m ρ K c _ 5 (by decide) (Fin.ext (k0_dev19_eq c)) 18 rfl rfl rfl rfl rfl) $$ HC Ho S5 R5 T5
  iintro ⟨Ho, C5⟩
  iapply (a_send m ρ K c _ 6 (by decide) (Fin.ext (k0_dev20_eq c)) 19 rfl rfl rfl rfl rfl) $$ HC Ho S6 R6 T6
  iintro ⟨Ho, C6⟩
  iapply (a_send m ρ K c _ 7 (by decide) (Fin.ext (k0_dev21_eq c)) 20 rfl rfl rfl rfl rfl) $$ HC Ho S7 R7 T7
  iintro ⟨Ho, C7⟩
  rw [wp_ret]; imodintro
  iapply Hk
  iframe ∗

/-- What the end of a transfer leaves its owner: the piece it hands over and the cell at rest. -/
def fin (f : Fin 4) (c : Dev nD) (d : Fin 8) : sProp 𝕄 := iprop(famPay m ρ f.val c d ∗ zero f c d)

/-- A wait after the last send. -/
theorem end_wait (c : Dev nD) (f : Fin 4) (d : Fin 8) (hd : d ≠ 0) {sem : DmaSem sig} (hs : sem = xsem f d)
    {sp sp' : Space} {t t' : Shape} {e e' : EltTy} {κ' : Kind} {srcw : Memref sig .tc sp' t' e'} {dstw : Memref sig κ' sp t e}
    {hsrc : srcw.view.WordExact} {hdst : dstw.view.WordExact} (hN : dstw.view.dmaCredit = NF f)
    {α : Type} {Kt : α → sProp 𝕄} {k : PUnit → Prog (TpuEff nD τ sig (Elt F) Λ₀ .tc) α} :
    Ctx m ρ K ⊢ iprop(ow c 21 -∗ WaitItem f c d
      -∗ ((ow c 21 ∗ fin m ρ f c d) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sem srcw dstw hsrc hdst) k) Kt) :=
  x_wait m ρ K c f d hd 21 (lv_end f d) hs hN

/-- Part 17: the rows of the four devices before. -/
theorem part17 (c : Dev nD) (v2 : BitVec 32) {Kt : _ → sProp 𝕄} :
    Ctx m ρ K ⊢ iprop(ow c 21 -∗ (WaitItem 3 c 1 ∗ WaitItem 3 c 2 ∗ WaitItem 3 c 3 ∗ WaitItem 3 c 4)
      -∗ ((ow c 21 ∗ fin m ρ 3 c 1 ∗ fin m ρ 3 c 2 ∗ fin m ρ 3 c 3 ∗ fin m ρ 3 c 4) -∗ Kt ⟨⟩)
      -∗ wpc c (atArgs (k0_part17 (F := F)) v2) Kt) := by
  simp only [atArgs, wpc, k0_part17_eq_skeleton]; unfold k0_part17_skel
  simp only [Prog.lift, Prog.bind_op, Prog.bind_ret, Prog.pure_eq_ret]
  iintro #HC Ho ⟨W1, W2, W3, W4⟩ Hk
  iapply (end_wait m ρ K c 3 1 (by decide) rfl (row_credit 1)) $$ HC Ho W1; iintro ⟨Ho, F1⟩
  iapply (end_wait m ρ K c 3 2 (by decide) rfl (row_credit 2)) $$ HC Ho W2; iintro ⟨Ho, F2⟩
  iapply (end_wait m ρ K c 3 3 (by decide) rfl (row_credit 3)) $$ HC Ho W3; iintro ⟨Ho, F3⟩
  iapply (end_wait m ρ K c 3 4 (by decide) rfl (row_credit 4)) $$ HC Ho W4; iintro ⟨Ho, F4⟩
  rw [wp_ret]; imodintro
  iapply Hk
  iframe ∗

/-- Part 18: the other three rows; the load of all eight. -/
theorem part18 (c : Dev nD) (v2 : BitVec 32) {Kt : _ → sProp 𝕄} :
    Ctx m ρ K ⊢ iprop(ow c 21 -∗ (WaitItem 3 c 5 ∗ WaitItem 3 c 6 ∗ WaitItem 3 c 7)
      -∗ (fin m ρ 3 c 1 ∗ fin m ρ 3 c 2 ∗ fin m ρ 3 c 3 ∗ fin m ρ 3 c 4) -∗ sh m ρ c 0
      -∗ ((ow c 21 ∗ seven (fin m ρ 3 c) ∗ sh m ρ c 0) -∗ Kt ⟨k0_pay13 (AM m ρ c), k0_pay14 (AM m ρ c)⟩)
      -∗ wpc c (atArgs (k0_part18 (F := F)) v2) Kt) := by
  simp only [atArgs, wpc, k0_part18_eq_skeleton]; unfold k0_part18_skel
  simp only [Prog.lift, Prog.bind_op, Prog.bind_ret, Prog.pure_eq_ret]
  iintro #HC Ho ⟨W5, W6, W7⟩ ⟨F1, F2, F3, F4⟩ S0 Hk
  iapply (end_wait m ρ K c 3 5 (by decide) rfl (row_credit 5)) $$ HC Ho W5; iintro ⟨Ho, F5⟩
  iapply (end_wait m ρ K c 3 6 (by decide) rfl (row_credit 6)) $$ HC Ho W6; iintro ⟨Ho, F6⟩
  iapply (end_wait m ρ K c 3 7 (by decide) rfl (row_credit 7)) $$ HC Ho W7; iintro ⟨Ho, F7⟩
  have e : ∀ d : Fin 8, fin m ρ 3 c d = iprop(rowPts c d fullShare (AM m ρ c) ∗ zero 3 c d) := fun d => rfl
  have e' : (iprop(rowPts c 0 (eighth 0) (AM m ρ c) ∗ seven fun d => rowPts (F := F) c d fullShare (AM m ρ c)) : sProp 𝕄)
      = iprop(((c : Thread nD τ).loc cc0_scratch3 ↦{eighth 0} AM m ρ c) ∗ bigSep (Finset.univ.erase (0 : Fin 8)) (restRow m ρ c)) := by
    rw [← bigSep_seven]; exact rows_open m ρ c
  simp only [seven, e] at e' ⊢
  unfold sh
  icases F1 with ⟨R1, Z1⟩
  icases F2 with ⟨R2, Z2⟩
  icases F3 with ⟨R3, Z3⟩
  icases F4 with ⟨R4, Z4⟩
  icases F5 with ⟨R5, Z5⟩
  icases F6 with ⟨R6, Z6⟩
  icases F7 with ⟨R7, Z7⟩
  ihave HA := (Entails.of_eq e') $$ [S0 R1 R2 R3 R4 R5 R6 R7]
  · iframe ∗
  icases HA with ⟨HA, HR⟩
  iapply (wp_load 𝒱₀ (c : Thread nD τ) none Set.univ (m := amM) (Finset.subset_univ _)) $$ HA; iintro HA
  rw [show amM.view.readAt (Elt F) (Rect.unit (s := S8x128) ![0, 0] S8x128.size inb_S8x128_S8x128_0_0).toLoadRect (AM m ρ c) = AM m ρ c from
    Memref.readAt_unit_zero (Elt F) cc0_scratch3 hz2 _ (AM m ρ c)]
  ihave HA := (Entails.of_eq e'.symm) $$ [HA HR]
  · isplitl [HA] <;> iassumption
  icases HA with ⟨S0, R1, R2, R3, R4, R5, R6, R7⟩
  rw [wp_ret]; imodintro
  iapply Hk
  iframe ∗

omit [FloatOps F] in
/-- A row block's credit, whatever way its offset is written. -/
theorem blk_credit (j : Fin 8) {o : Fin 2 → ℕ} (h : o = ![512 * j.val, 0]) (inb : ∀ a, o a + S512x512.size a ≤ S4096x512.size a) :
    (xsM.slice (Rect.unit (s := S4096x512) o S512x512.size inb) (fun _ => rfl)).view.dmaCredit = NF 0 := by
  subst h; exact xBlk_credit j

/-- Part 19: the result stored; the first three blocks sent are back. -/
theorem part19 (c : Dev nD) {Kt : _ → sProp 𝕄} :
    Ctx m ρ K ⊢ iprop(ow c 21 -∗ (∃ f, (c : Thread nD τ).loc cc0_stg1_0 ↦{fullShare} f) -∗ (WaitItem 0 c 1 ∗ WaitItem 0 c 2 ∗ WaitItem 0 c 3)
      -∗ ((ow c 21 ∗ ((c : Thread nD τ).loc cc0_stg1_0 ↦{fullShare} outv m ρ c) ∗ fin m ρ 0 c 1 ∗ fin m ρ 0 c 2 ∗ fin m ρ 0 c 3) -∗ Kt ⟨⟩)
      -∗ wpc c (atArgs (k0_part19 (F := F)) c (Y m ρ c 8) (k0_pay13 (AM m ρ c)) (k0_pay14 (AM m ρ c))) Kt) := by
  simp only [atArgs, wpc, k0_part19_eq_skeleton]; unfold k0_part19_skel
  simp only [Prog.lift, Prog.bind_op, Prog.bind_ret, Prog.pure_eq_ret]
  iintro #HC Ho ⟨%f, Hf⟩ ⟨W1, W2, W3⟩ Hk
  iapply (wp_load 𝒱₀ (c : Thread nD τ) none Set.univ (m := oM) (Finset.subset_univ _)) $$ Hf; iintro Hf
  iapply (wp_store 𝒱₀ (c : Thread nD τ) none Set.univ (m := oM) (r := Rect.unit (s := S512x2048) ![0, 0] S512x2048.size inb_S512x2048_S512x2048_0_0)
    (Mk := Finset.univ) (Finset.subset_univ _)) $$ Hf; iintro Hf
  rw [show (oM.access (Rect.unit (s := S512x2048) ![0, 0] S512x2048.size inb_S512x2048_S512x2048_0_0)).write (Elt F) f
      (k0_pay15 (Y m ρ c 8) (k0_pay13 (AM m ρ c)) (k0_pay14 (AM m ρ c))) Finset.univ = outv m ρ c from
    Memref.write_access_unit_zero_univ (Elt F) cc0_stg1_0 hz2 _ f _]
  iapply (end_wait m ρ K c 0 1 (by decide) rfl (blk_credit (peer c 1) (k0_off1_eq c 0) _)) $$ HC Ho W1; iintro ⟨Ho, F1⟩
  iapply (end_wait m ρ K c 0 2 (by decide) rfl (blk_credit (peer c 2) (k0_off1_eq c 1) _)) $$ HC Ho W2; iintro ⟨Ho, F2⟩
  iapply (end_wait m ρ K c 0 3 (by decide) rfl (blk_credit (peer c 3) (k0_off1_eq c 2) _)) $$ HC Ho W3; iintro ⟨Ho, F3⟩
  rw [wp_ret]; imodintro
  iapply Hk
  iframe ∗

/-- Part 20: the other four blocks sent are back, and one share of the row of maxima. -/
theorem part20 (c : Dev nD) {Kt : _ → sProp 𝕄} :
    Ctx m ρ K ⊢ iprop(ow c 21 -∗ (WaitItem 0 c 4 ∗ WaitItem 0 c 5 ∗ WaitItem 0 c 6 ∗ WaitItem 0 c 7 ∗ WaitItem 2 c 1)
      -∗ ((ow c 21 ∗ fin m ρ 0 c 4 ∗ fin m ρ 0 c 5 ∗ fin m ρ 0 c 6 ∗ fin m ρ 0 c 7 ∗ fin m ρ 2 c 1) -∗ Kt ⟨⟩)
      -∗ wpc c (atArgs (k0_part20 (F := F)) c) Kt) := by
  simp only [atArgs, wpc, k0_part20_eq_skeleton]; unfold k0_part20_skel
  simp only [Prog.lift, Prog.bind_op, Prog.bind_ret, Prog.pure_eq_ret]
  iintro #HC Ho ⟨W1, W2, W3, W4, W5⟩ Hk
  iapply (end_wait m ρ K c 0 4 (by decide) rfl (blk_credit (peer c 4) (k0_off1_eq c 3) _)) $$ HC Ho W1; iintro ⟨Ho, F1⟩
  iapply (end_wait m ρ K c 0 5 (by decide) rfl (blk_credit (peer c 5) (k0_off1_eq c 4) _)) $$ HC Ho W2; iintro ⟨Ho, F2⟩
  iapply (end_wait m ρ K c 0 6 (by decide) rfl (blk_credit (peer c 6) (k0_off1_eq c 5) _)) $$ HC Ho W3; iintro ⟨Ho, F3⟩
  iapply (end_wait m ρ K c 0 7 (by decide) rfl (blk_credit (peer c 7) (k0_off1_eq c 6) _)) $$ HC Ho W4; iintro ⟨Ho, F4⟩
  iapply (end_wait m ρ K c 2 1 (by decide) rfl (row_credit 0)) $$ HC Ho W5; iintro ⟨Ho, F5⟩
  rw [wp_ret]; imodintro
  iapply Hk
  iframe ∗

/-- Part 21: four more shares of the row. -/
theorem part21 (c : Dev nD) {Kt : _ → sProp 𝕄} :
    Ctx m ρ K ⊢ iprop(ow c 21 -∗ (WaitItem 2 c 2 ∗ WaitItem 2 c 3 ∗ WaitItem 2 c 4 ∗ WaitItem 2 c 5)
      -∗ ((ow c 21 ∗ fin m ρ 2 c 2 ∗ fin m ρ 2 c 3 ∗ fin m ρ 2 c 4 ∗ fin m ρ 2 c 5) -∗ Kt ⟨⟩)
      -∗ wpc c (atArgs (k0_part21 (F := F))) Kt) := by
  simp only [atArgs, wpc, k0_part21_eq_skeleton]; unfold k0_part21_skel
  simp only [Prog.lift, Prog.bind_op, Prog.bind_ret, Prog.pure_eq_ret]
  iintro #HC Ho ⟨W1, W2, W3, W4⟩ Hk
  iapply (end_wait m ρ K c 2 2 (by decide) rfl (row_credit 0)) $$ HC Ho W1; iintro ⟨Ho, F1⟩
  iapply (end_wait m ρ K c 2 3 (by decide) rfl (row_credit 0)) $$ HC Ho W2; iintro ⟨Ho, F2⟩
  iapply (end_wait m ρ K c 2 4 (by decide) rfl (row_credit 0)) $$ HC Ho W3; iintro ⟨Ho, F3⟩
  iapply (end_wait m ρ K c 2 5 (by decide) rfl (row_credit 0)) $$ HC Ho W4; iintro ⟨Ho, F4⟩
  rw [wp_ret]; imodintro
  iapply Hk
  iframe ∗

end Parts

end Cert.KProof
-- ==== Proof.Body.lean ====
/-
# `k`: the kernel's body, its parts one after another
-/
module

public import proofs.«01_k».proof.Proof.Parts1
public import proofs.«01_k».proof.Proof.Parts2
public import proofs.«01_k».proof.Proof.Parts3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from: the staged inputs, the buffers in pieces, and the tokens, credits and positions of every step. -/
def bodyPre (c : Dev nD) : sProp 𝕄 :=
  iprop(ow c 0 ∗ ((c : Thread nD τ).loc cc0_stg0_0 ↦{fullShare} xstg m ρ c) ∗ (∃ f, (c : Thread nD τ).loc cc0_stg1_0 ↦{fullShare} f)
    ∗ (∃ f, (c : Thread nD τ).loc cc0_scratch0 ↦{fullShare} f) ∗ (∃ f, rowPts (F := F) c 0 fullShare f)
    ∗ seven (SigItem (F := F) c) ∗ (cred (tallyAt (barCell c) () 7) ∗ atPos ER (barCell c) 0 ∅ 0)
    ∗ seven (Toks (F := F) 0 1 c) ∗ seven (Toks (F := F) 2 3 c) ∗ seven (WaitItem (F := F) 1 c) ∗ seven (WaitItem (F := F) 3 c)
    ∗ seven (fun d => atPos ER (xcell 0 c d) 0 ∅ 0) ∗ seven (fun d => atPos ER (xcell 2 c d) 0 ∅ 0) ∗ wFree m c 0 ∗ wFree m c 1)

/-- What it ends with: the result stored, every piece of the buffers back, every counter at zero. -/
def bodyPost (c : Dev nD) : sProp 𝕄 :=
  iprop(ow c 21 ∗ ((c : Thread nD τ).loc cc0_stg0_0 ↦{fullShare} xstg m ρ c) ∗ ((c : Thread nD τ).loc cc0_stg1_0 ↦{fullShare} outv m ρ c)
    ∗ semVal (barCell c) 0 ∗ xsPts m ρ c c ∗ sh m ρ c 0
    ∗ seven (fin m ρ 0 c) ∗ (seven (fun d => slotPts c d (XG m ρ c)) ∗ seven (zero (F := F) 1 c)) ∗ seven (fin m ρ 2 c) ∗ seven (fin m ρ 3 c)
    ∗ wFree m c 0 ∗ wFree m c 1)

/-- The narrowed block held whole is the core's own row block and the seven it sends. -/
theorem xs_pieces (c : Dev nD) :
    ((c : Thread nD τ).loc cc0_scratch0 ↦{fullShare} xs m ρ c : sProp 𝕄) = iprop(xsPts m ρ c c ∗ seven (fun d => xsPts m ρ c (peer c d))) := by
  let e : Fin 8 ≃ Dev nD := Equiv.ofBijective (peer c) (by revert c; decide)
  rw [xs_split, bigSep_univ_equiv e (xsPts m ρ c),
    show (bigSep Finset.univ (fun a => xsPts m ρ c (e a)) : sProp 𝕄)
      = iprop(xsPts m ρ c (e 0) ∗ bigSep (Finset.univ.erase (0 : Fin 8)) fun a => xsPts m ρ c (e a)) from bigSep_erase (Finset.mem_univ (0 : Fin 8)),
    bigSep_seven]
  show iprop(xsPts m ρ c (peer c 0) ∗ _) = _
  rw [peer_zero]; rfl

section Steps

variable (K : Dev nD × CI → ℕ)

/-- The body, from the first signal to the last wait. -/
theorem body_run (c : Dev nD) {Kt : PUnit → sProp 𝕄} :
    Ctx m ρ K ⊢ iprop(bodyPre m ρ c -∗ (bodyPost m ρ c -∗ Kt ⟨⟩) -∗ wpc c (atArgs (cc0_body (F := F))) Kt) := by
  simp only [atArgs, wpc, cc0_body_eq_skeleton]; unfold cc0_body_skel
  simp only [Prog.lift, Prog.bind_op, Prog.bind_ret, Prog.pure_eq_ret, wp_bind]
  unfold bodyPre
  dsimp only [seven]
  iintro #HC ⟨Ho, Hx, Hout, Hs0, Hrow, ⟨G1, G2, G3, G4, G5, G6, G7⟩, Hbar, ⟨T1, T2, T3, T4, T5, T6, T7⟩, ⟨A1, A2, A3, A4, A5, A6, A7⟩,
    ⟨W1, W2, W3, W4, W5, W6, W7⟩, ⟨V1, V2, V3, V4, V5, V6, V7⟩, ⟨P1, P2, P3, P4, P5, P6, P7⟩, ⟨Q1, Q2, Q3, Q4, Q5, Q6, Q7⟩, F0, F1⟩ Hk
  iapply (part1 m ρ K c) $$ HC Ho Hx Hs0 [G1 G2 G3 G4]
  · iframe ∗
  iintro %v2 %v26 ⟨Ho, Hx, Hs0⟩
  ihave Hxs := (Entails.of_eq (xs_pieces m ρ c)) $$ Hs0
  dsimp only [seven]
  icases Hxs with ⟨X0, X1, X2, X3, X4, X5, X6, X7⟩
  iapply (part2 m ρ K c v2 v26) $$ HC Ho [G5 G6 G7] Hbar [X1 T1]
  · iframe ∗
  · unfold XItem; iframe ∗
  dsimp only [seven]
  iintro %v51 %w ⟨Ho, Hb, S1, ⟨L2, L3, L4, L5, L6, L7⟩, ⟨R1, R2, R3, R4, R5, R6, R7⟩⟩
  iapply (part3 m ρ K c v2 v51 w) $$ HC Ho [L2 X2 T2] [L3 X3 T3]
  · unfold XItem; iframe ∗
  · unfold XItem; iframe ∗
  iintro ⟨Ho, S2, S3⟩
  iapply (part4 m ρ K c v2) $$ HC Ho [L4 X4 T4] [L5 X5 T5] [L6 X6 T6]
  · unfold XItem; iframe ∗
  · unfold XItem; iframe ∗
  · unfold XItem; iframe ∗
  iintro %v111 %w ⟨Ho, S4, S5, S6⟩
  iapply (part5 m ρ K c v2 v111 w) $$ HC Ho [L7 X7 T7] F0 F1
  · unfold XItem; iframe ∗
  iintro ⟨Ho, S7, F0, F1⟩
  iapply (part6 m ρ K c v2) $$ HC Ho F0 X0 W1
  iintro %v168 %w ⟨Ho, F0, X0, D1, Z1⟩
  iapply (part7 m ρ K c v2 v168 w) $$ HC Ho F1 D1
  iintro ⟨Ho, F1, D1⟩
  iapply (part8 m ρ K c v2) $$ HC Ho W2 F0
  iintro %v222 %w ⟨Ho, F0, D2, Z2⟩
  iapply (part9 m ρ K c v2 v222 w) $$ HC Ho W3 F1
  iintro ⟨Ho, F1, D3, Z3⟩
  iapply (part10 m ρ K c v2) $$ HC Ho F1 W4 F0
  iintro ⟨Ho, F1, F0, D4, Z4⟩
  iapply (part11 m ρ K c v2) $$ HC Ho F0 W5 F1
  iintro %w ⟨Ho, F0, F1, D5, Z5⟩
  iapply (part12 m ρ K c v2 w) $$ HC Ho F1 W6 F0
  iintro ⟨Ho, F1, F0, D6, Z6⟩
  iapply (part13 m ρ K c v2) $$ HC Ho F0 W7 F1
  iintro %v361 %hv ⟨Ho, F0, F1, D7, Z7⟩
  iapply (part14 m ρ K c v2 v361 hv) $$ HC Ho Hrow [R1 A1] [R2 A2]
  · unfold AItem; iframe ∗
  · unfold AItem; iframe ∗
  iintro %v393 ⟨Ho, M1, M2, H0, H3, H4, H5, H6, H7⟩
  iapply (part15 m ρ K c v2 v393) $$ HC Ho [H3 R3 A3] [H4 R4 A4]
  · unfold AItem; iframe ∗
  · unfold AItem; iframe ∗
  iintro ⟨Ho, M3, M4⟩
  iapply (part16 m ρ K c v2) $$ HC Ho [H5 R5 A5] [H6 R6 A6] [H7 R7 A7]
  · unfold AItem; iframe ∗
  · unfold AItem; iframe ∗
  · unfold AItem; iframe ∗
  iintro ⟨Ho, M5, M6, M7⟩
  iapply (part17 m ρ K c v2) $$ HC Ho [V1 V2 V3 V4]
  · iframe ∗
  iintro ⟨Ho, N1, N2, N3, N4⟩
  iapply (part18 m ρ K c v2) $$ HC Ho [V5 V6 V7] [N1 N2 N3 N4] H0
  · iframe ∗
  · iframe ∗
  iintro ⟨Ho, HN, H0⟩
  iapply (part19 m ρ K c) $$ HC Ho Hout [S1 P1 S2 P2 S3 P3]
  · unfold sent WaitItem; iframe ∗
  iintro ⟨Ho, Hout, B1, B2, B3⟩
  iapply (part20 m ρ K c) $$ HC Ho [S4 P4 S5 P5 S6 P6 S7 P7 M1 Q1]
  · unfold sent WaitItem; iframe ∗
  iintro ⟨Ho, B4, B5, B6, B7, C1⟩
  iapply (part21 m ρ K c) $$ HC Ho [M2 Q2 M3 Q3 M4 Q4 M5 Q5]
  · unfold sent WaitItem; iframe ∗
  iintro ⟨Ho, C2, C3, C4, C5⟩
  iapply (end_wait m ρ K c 2 6 (by decide) rfl (row_credit 0)) $$ HC Ho [M6 Q6]
  · unfold sent WaitItem; iframe ∗
  iintro ⟨Ho, C6⟩
  iapply (end_wait m ρ K c 2 7 (by decide) rfl (row_credit 0)) $$ HC Ho [M7 Q7]
  · unfold sent WaitItem; iframe ∗
  iintro ⟨Ho, C7⟩
  rw [wp_ret]
  imodintro
  iapply Hk
  unfold bodyPost
  dsimp only [seven]
  iframe ∗

end Steps

end Cert.KProof
-- ==== Proof.Launch.lean ====
/-
# `k`: the launch — cells, tokens, positions and credits dealt to the devices
-/
module

public import proofs.«01_k».proof.Proof.Vocab

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The semaphores of the kernel's own: the four families of eight and the two of the copies of `w_mat`. -/
abbrev osem : Fin 34 → SemLoc sig := fun i => .dma (⟨2 + i.val, by show _ < 36; omega⟩ : DmaSem sig)

/-- The kernel's own semaphores are listed correctly. -/
theorem ownSemFacts : Pipeline.OwnSemFacts cfg0.spec osem := by decide

/-! ## Separating conjunctions over the index types -/

section Sep
variable {M : Type*} [URA M]

/-- A product over the protocol's indices is the barrier's part and the four families' parts. -/
theorem bigSep_CI (Φ : CI → sProp 𝕄) :
    bigSep Finset.univ Φ = iprop(Φ none ∗ bigSep Finset.univ fun f : Fin 4 => bigSep Finset.univ fun j : Fin 8 => Φ (some (f, j))) := by
  rw [bigSep_univ_equiv (Equiv.optionEquivSumPUnit.{0} (Fin 4 × Fin 8)).symm Φ, bigSep_univ_sum]
  rw [show (bigSep Finset.univ (fun b : PUnit => Φ ((Equiv.optionEquivSumPUnit.{0} (Fin 4 × Fin 8)).symm (.inr b))) : sProp 𝕄) = Φ none from bigSep_singleton,
    bigSep_univ_prod (fun a => Φ ((Equiv.optionEquivSumPUnit.{0} (Fin 4 × Fin 8)).symm (.inl a)))]
  exact Std.Commutative.comm (op := fun P Q : sProp 𝕄 => BI.sep P Q) _ _

/-- A product over four things, written out. -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
/-- Eight things are the one at distance zero and the seven others. -/
theorem bigSep_eight (Φ : Fin 8 → sProp 𝕄) : bigSep Finset.univ Φ = iprop(Φ 0 ∗ seven Φ) := by
  rw [show bigSep Finset.univ Φ = iprop(Φ 0 ∗ bigSep (Finset.univ.erase (0 : Fin 8)) Φ) from bigSep_erase (Finset.mem_univ (0 : Fin 8)), bigSep_seven]

/-- The two products of a double product may change places. -/
theorem bigSep_swap {α β : Type} [Fintype α] [Fintype β] (Φ : α → β → sProp 𝕄) :
    (bigSep Finset.univ fun a => bigSep Finset.univ (Φ a)) = bigSep Finset.univ fun b => bigSep Finset.univ fun a => Φ a b := by
  rw [← bigSep_univ_prod (fun p : α × β => Φ p.1 p.2), bigSep_univ_equiv (Equiv.prodComm β α), bigSep_univ_prod]
  rfl

/-- Dealing around the circle: what device `c` has for distance `d` goes to the device `d` places before it. -/
theorem deal (Ψ : Dev nD → Fin 8 → sProp 𝕄) :
    (bigSep Finset.univ fun c : Dev nD => bigSep Finset.univ (Ψ c)) = bigSep Finset.univ fun c : Dev nD => bigSep Finset.univ fun d => Ψ (peer c d) d := by
  rw [bigSep_swap, bigSep_swap (fun (c : Dev nD) d => Ψ (peer c d) d)]
  exact bigSep_congr fun d _ => bigSep_univ_equiv (turn d) fun c => Ψ c d

end Sep

/-! ## The cells and their tokens -/

/-- Different indices stand for different semaphores. -/
theorem csem_injective : Function.Injective csem := by decide
/-- Different devices or indices have different semaphores. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All semaphores of the protocol. -/
def allCells : Finset (GSem nD τ sig) := Finset.univ.map ⟨kcell, kcell_injective⟩

/-- A device's own cells' duty tokens: the barrier's one per distance, each transfer cell's one. -/
abbrev TI : Type := Fin 8 ⊕ (Fin 4 × Fin 8)
/-- The semaphore and the duty that an index of a duty stands for. -/
abbrev tokSem : TI → SemLoc sig × Fin 8
  | .inl d => (.reg barS, d)
  | .inr (f, j) => (.dma (xsem f j), 0)
/-- The duty at a device and an index. -/
abbrev tokOf (ck : Dev nD × TI) : GSem nD τ sig × ℕ × Fin 8 := (((ck.1 : Thread nD τ), (tokSem ck.2).1), 0, (tokSem ck.2).2)
/-- Different indices stand for different duties. -/
theorem tokSem_injective : Function.Injective tokSem := by decide
/-- Different devices or indices have different duties. -/
theorem tokOf_injective : Function.Injective (tokOf : Dev nD × TI → GSem nD τ sig × ℕ × Fin 8) := by
  rintro ⟨c, k⟩ ⟨c', k'⟩ h
  have h1 : c = c' := congrArg (fun x : GSem nD τ sig × ℕ × Fin 8 => x.1.1.1) h
  have h2 : k = k' := tokSem_injective (congrArg (fun x : GSem nD τ sig × ℕ × Fin 8 => (x.1.2, x.2.2)) h)
  rw [h1, h2]
/-- All duties of the protocol. -/
def allToks : Finset (GSem nD τ sig × ℕ × Fin 8) := Finset.univ.map ⟨tokOf, tokOf_injective⟩

/-- What the launch mints. -/
def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun d : Fin 8 => dutyTok ER (barCell c) 0 d)
    ∗ bigSep Finset.univ fun f : Fin 4 => bigSep Finset.univ fun j : Fin 8 => dutyTok ER (xcell f c j) 0 0)

/-- What the launch deals device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

/-- The initial resource of the protocol gives every device its part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum]
      refine congrArg (fun Q : sProp 𝕄 => BI.sep _ Q) ?_
      exact bigSep_univ_prod (fun a : Fin 4 × Fin 8 => (dutyTok ER (xcell a.1 c a.2) 0 0 : sProp 𝕄))
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe ∗

/-- The kernel's own semaphores at zero: the four families and the two of the copies. -/
theorem ownSems0_eq (c : Dev nD) : (Pipeline.ownSems0 (Ix := Unit) (Name := ℕ) (U := UU) (Lvl := ℕ) (Val := Elt F) (τ := τ) osem c : sProp 𝕄)
    = iprop((bigSep Finset.univ fun f : Fin 4 => bigSep Finset.univ fun j : Fin 8 => zero f c j)
      ∗ semVal ((c : Thread nD τ), SemLoc.dma (wsem 0)) 0 ∗ semVal ((c : Thread nD τ), SemLoc.dma (wsem 1)) 0) := by
  let e : (Fin 4 × Fin 8) ⊕ Fin 2 ≃ Fin 34 := Equiv.ofBijective
    (Sum.elim (fun p : Fin 4 × Fin 8 => (⟨8 * p.1.val + p.2.val, by omega⟩ : Fin 34)) fun s : Fin 2 => (⟨32 + s.val, by omega⟩ : Fin 34)) (by decide)
  unfold Pipeline.ownSems0
  rw [bigSep_univ_equiv e, bigSep_univ_sum, bigSep_univ_prod (fun a => (semVal ((c.tc : Thread nD τ), osem (e (.inl a))) 0 : sProp 𝕄)),
    bigSep_univ_eq_bigSepL [0, 1] (by decide) (by decide) (fun b : Fin 2 => (semVal ((c.tc : Thread nD τ), osem (e (.inr b))) 0 : sProp 𝕄))]
  refine congrArg₂ (fun P Q : sProp 𝕄 => BI.sep P Q) (bigSep_congr fun f _ => bigSep_congr fun j _ => ?_) rfl
  show semVal ((c : Thread nD τ), osem (⟨8 * f.val + j.val, _⟩ : Fin 34)) 0 = semVal ((c : Thread nD τ), SemLoc.dma (xsem f j)) 0
  rw [show osem (⟨8 * f.val + j.val, by omega⟩ : Fin 34) = SemLoc.dma (xsem f j) by revert f j; decide]
/-- The only semaphore outside the kernel's scope is the barrier, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The two counters of the copies, which are no cells. -/
def wZeros (c : Dev nD) : sProp 𝕄 := iprop(semVal ((c : Thread nD τ), SemLoc.dma (wsem 0)) 0 ∗ semVal ((c : Thread nD τ), SemLoc.dma (wsem 1)) 0)

/-- A device's semaphores at zero, with its part of the protocol, set the protocol up on that device. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c ∗ wZeros c) := by
  unfold G wZeros
  rw [ownSems0_eq, unscopedSems0_eq]
  iintro ⟨⟨Hx, Hw⟩, Hb, Hst, Hat, Htok⟩
  ihave Hv := (Entails.of_eq (bigSep_CI (fun k : CI => (semVal (kcell (c, k)) 0 : sProp 𝕄))).symm) $$ [Hx Hb]
  · unfold zero; iframe ∗
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · iframe ∗
  imodintro
  iframe ∗

/-- The tokens of the duties device `c` pays, over every distance. -/
def payToks (c : Dev nD) : sProp 𝕄 :=
  iprop((bigSep Finset.univ fun d : Fin 8 => dutyTok ER (barCell (peer c d)) 0 (neg d)) ∗ (bigSep Finset.univ fun d : Fin 8 => Toks (F := F) 0 1 c d)
    ∗ bigSep Finset.univ fun d : Fin 8 => Toks (F := F) 2 3 c d)

/-- Taking the opposite distance, as a permutation. -/
def negE : Fin 8 ≃ Fin 8 := ⟨neg, neg, neg_neg', neg_neg'⟩

/-- The tokens dealt around the circle. -/
theorem toks_around : (bigSep Finset.univ fun c : Dev nD => (toks c : sProp 𝕄)) ⊢ bigSep Finset.univ fun c : Dev nD => payToks c := by
  unfold toks payToks Toks
  simp only [bigSep_four, bigSep_sep']
  rw [bigSep_congr (fun (c : Dev nD) _ => bigSep_univ_equiv negE (fun d : Fin 8 => (dutyTok ER (barCell c) 0 d : sProp 𝕄))),
    deal (fun c d => dutyTok ER (barCell c) 0 (negE d)), deal (fun c d => dutyTok ER (xcell 1 c d) 0 0), deal (fun c d => dutyTok ER (xcell 3 c d) 0 0)]
  show iprop((bigSep Finset.univ fun c : Dev nD => bigSep Finset.univ fun d : Fin 8 => dutyTok ER (barCell (peer c d)) 0 (neg d)) ∗ _) ⊢ _
  iintro ⟨H0, H1, H2, H3, H4⟩
  iframe ∗

/-- What stays with device `c`: its positions, the tokens of the duties it pays, the two counters of the copies. -/
def linear (c : Dev nD) : sProp 𝕄 :=
  iprop((bigSep Finset.univ fun k : CI => atPos ER (kcell (c, k)) 0 ∅ 0) ∗ payToks c ∗ wZeros c)
/-- What the launch's one global step makes for device `c`. -/
def G' (c : Dev nD) : sProp 𝕄 := iprop(∃ K, records m ρ K ∗ linear c)

/-- If a lasting fact turns each factor of a product into another, it turns the product into the other product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices become one record that every device has, and each device gets the duties it performs. -/
theorem regroup :
    (bigSep Finset.univ fun c : Dev nD => iprop((bigSep Finset.univ fun k => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c ∗ wZeros c) : sProp 𝕄)
      ⊢ bigSep Finset.univ (G' m ρ) := by
  rw [bigSep_sep', bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hw⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (with_persistent (R := records m ρ K) (Φ := linear) fun c _ => show iprop(records m ρ K ∗ linear c) ⊢ G' m ρ c by
    unfold G'; iintro H; iexists K; iexact H)
  isplitr
  · unfold records; isplitl; · iexact HI
    iexact HR
  · unfold linear; simp only [bigSep_sep']
    iframe ∗

/-- The launch's global step: the semaphores of every device at once become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the debts -/

/-- The debts of two lists together are the sum of the debts of each. -/
theorem owedL_append (a b : List (GSem nD τ sig × ℕ)) (g : GSem nD τ sig) : owedL (a ++ b) g () = owedL a g () + owedL b g () := by
  induction a with
  | nil => exact (Nat.zero_add _).symm
  | cons p a ih =>
    obtain ⟨g', n⟩ := p
    show (owedL (a ++ b) + tallyAt g' () n) g () = (owedL a + tallyAt g' () n) g () + _
    rw [Pi.add_apply, Finsupp.add_apply, Pi.add_apply, Finsupp.add_apply, ih]; omega

/-- The same debt to every cell of a list: a cell is owed it as often as it is listed. -/
theorem owedL_map (l : List (GSem nD τ sig)) (n : ℕ) (g : GSem nD τ sig) : owedL (l.map (·, n)) g () = l.count g * n := by
  induction l with
  | nil => exact (Nat.zero_mul _).symm
  | cons a l ih =>
    show (owedL (l.map (·, n)) + tallyAt a () n) g () = _
    rw [Pi.add_apply, Finsupp.add_apply, ih, tallyAt_apply, List.count_cons]
    by_cases h : g = a
    · subst h; rw [if_pos ⟨rfl, rfl⟩, if_pos (beq_self_eq_true _), Nat.add_mul, Nat.one_mul]
    · rw [if_neg (fun h' => h h'.1), if_neg (fun h' => h (eq_of_beq h').symm), Nat.add_zero, Nat.add_zero]

/-- The barriers a device must signal. -/
def barL (c : Dev nD) : List (GSem nD τ sig) := ([1, 2, 3, 4, 5, 6, 7] : List (Fin 8)).map fun d => barCell (peer c d)
/-- The receive semaphores of a family which a device must raise. -/
def recvL (f : Fin 4) (c : Dev nD) : List (GSem nD τ sig) := ([1, 2, 3, 4, 5, 6, 7] : List (Fin 8)).map fun d => xcell f (peer c d) d

/-- What a device owes a semaphore, by counting it in the three lists. -/
theorem owed_count (c : Dev nD) (g : GSem nD τ sig) :
    O c 0 g () = (barL c).count g * 1 + ((recvL 1 c).count g * NX + (recvL 3 c).count g * NA) := by
  rw [← owedL_map, ← owedL_map, ← owedL_map, ← owedL_append, ← owedL_append]; rfl

/-- Each device signals the barrier of every other device once and never its own. -/
theorem count_bar : ∀ c d : Dev nD, (barL d).count (barCell c) = if d = c then 0 else 1 := by decide +kernel
/-- A barrier is not among the receive semaphores. -/
theorem count_bar_x : ∀ (f : Fin 4) (c d : Dev nD), (recvL f d).count (barCell c) = 0 := by decide +kernel
/-- A receive semaphore is not among the barriers. -/
theorem count_x_bar : ∀ (f : Fin 4) (j : Fin 8) (c d : Dev nD), (barL d).count (xcell f c j) = 0 := by decide +kernel
/-- A receive semaphore is raised once, by the device at its distance, within its own family. -/
theorem count_x : ∀ (f f' : Fin 4) (j : Fin 8) (c d : Dev nD), (recvL f' d).count (xcell f c j) = if f = f' ∧ j ≠ 0 ∧ d = back c j then 1 else 0 := by decide +kernel

/-- Each device owes one to the barrier of every other device. -/
theorem owed_bar (c d : Dev nD) : O d 0 (barCell c) () = if d = c then 0 else 1 := by
  rw [owed_count, count_bar, count_bar_x, count_bar_x]; split <;> omega
/-- The device at the right distance owes a block's credit to a block receive semaphore. -/
theorem owed_recv1 (c d : Dev nD) (j : Fin 8) (h : j ≠ 0) : O d 0 (xcell 1 c j) () = if d = back c j then NX else 0 := by
  rw [owed_count, count_x_bar, count_x, count_x]
  by_cases e : d = back c j
  · rw [if_pos ⟨rfl, h, e⟩, if_neg (fun h => absurd h.1 (by decide)), if_pos e]; omega
  · rw [if_neg (fun h => e h.2.2), if_neg (fun h => absurd h.1 (by decide)), if_neg e]; omega
/-- The device at the right distance owes a row's credit to a maxima receive semaphore. -/
theorem owed_recv3 (c d : Dev nD) (j : Fin 8) (h : j ≠ 0) : O d 0 (xcell 3 c j) () = if d = back c j then NA else 0 := by
  rw [owed_count, count_x_bar, count_x, count_x]
  by_cases e : d = back c j
  · rw [if_neg (fun h => absurd h.1 (by decide)), if_pos ⟨rfl, h, e⟩, if_pos e]; omega
  · rw [if_neg (fun h => absurd h.1 (by decide)), if_neg (fun h => e h.2.2), if_neg e]; omega

/-- A cell's launch credit is what the devices owe it together. -/
theorem launch_at (g : GSem nD τ sig) (n : ℕ) (h : ∑ d : Dev nD, O d 0 g () = n) :
    tallyOn g (launchCredit (Pipeline.owing fun d => O d 0) 0 g) = (tallyAt g () n : CellTallies nD τ sig Unit) := by
  unfold tallyAt; refine congrArg _ (Finsupp.ext fun u => ?_); cases u
  rw [Pipeline.launchCredit_owing, Finsupp.single_eq_same, h]

/-- All devices together owe seven to a barrier. -/
theorem launch_bar (c : Dev nD) :
    tallyOn (barCell c) (launchCredit (Pipeline.owing fun d => O d 0) 0 (barCell c)) = (tallyAt (barCell c) () 7 : CellTallies nD τ sig Unit) :=
  launch_at _ _ (by rw [Finset.sum_congr rfl fun d _ => owed_bar c d]; revert c; decide)
/-- All devices together owe one block's credit to a block receive semaphore. -/
theorem launch_recv1 (c : Dev nD) (j : Fin 8) (h : j ≠ 0) :
    tallyOn (xcell 1 c j) (launchCredit (Pipeline.owing fun d => O d 0) 0 (xcell 1 c j)) = (tallyAt (xcell 1 c j) () (NF 1) : CellTallies nD τ sig Unit) :=
  launch_at _ _ (by
    rw [Finset.sum_congr rfl fun d _ => owed_recv1 c d j h, Finset.sum_ite_eq' Finset.univ (back c j) fun _ => NX, if_pos (Finset.mem_univ _)]; rfl)
/-- All devices together owe one row's credit to a maxima receive semaphore. -/
theorem launch_recv3 (c : Dev nD) (j : Fin 8) (h : j ≠ 0) :
    tallyOn (xcell 3 c j) (launchCredit (Pipeline.owing fun d => O d 0) 0 (xcell 3 c j)) = (tallyAt (xcell 3 c j) () (NF 3) : CellTallies nD τ sig Unit) :=
  launch_at _ _ (by
    rw [Finset.sum_congr rfl fun d _ => owed_recv3 c d j h, Finset.sum_ite_eq' Finset.univ (back c j) fun _ => NA, if_pos (Finset.mem_univ _)]; rfl)

/-- What is owed a device's cells at launch, cell by cell. -/
abbrev owedAt (g : GSem nD τ sig) : sProp 𝕄 := cred (tallyOn g (launchCredit (Pipeline.owing fun d => O d 0) 0 g))

/-- The credit a device gets at launch covers each of its semaphores. -/
theorem cred_cells (c : Dev nD) :
    (Pipeline.launchCred (fun d => O d 0) c : sProp 𝕄) ⊢ bigSep Finset.univ fun k : CI => owedAt (F := F) (kcell (c, k)) := by
  unfold Pipeline.launchCred
  iintro H
  ihave H := (show _ ⊢ _ from bigSep_subset (Finset.subset_univ (Finset.univ.map ⟨csem, csem_injective⟩))
    (Φ := fun sm => (owedAt (F := F) ((c : Thread nD τ), sm)))) $$ H
  iapply (Entails.of_eq (bigSep_map (s := (Finset.univ : Finset CI)) ⟨csem, csem_injective⟩ (Φ := fun sm => (owedAt (F := F) ((c : Thread nD τ), sm))))) $$ H

/-- The credit of a device's semaphores is that of the barrier and of the two receive families. -/
theorem cred_split (c : Dev nD) :
    (bigSep Finset.univ fun k : CI => owedAt (F := F) (kcell (c, k)))
      = iprop(owedAt (barCell c) ∗ (owedAt (xcell 0 c 0) ∗ seven fun d => owedAt (xcell 0 c d)) ∗ (owedAt (xcell 1 c 0) ∗ seven fun d => owedAt (xcell 1 c d))
          ∗ (owedAt (xcell 2 c 0) ∗ seven fun d => owedAt (xcell 2 c d)) ∗ (owedAt (xcell 3 c 0) ∗ seven fun d => owedAt (xcell 3 c d))) := by
  rw [bigSep_CI, bigSep_four, bigSep_eight, bigSep_eight, bigSep_eight, bigSep_eight]

/-- A device's credits: seven units at its barrier, a block's at each block receive, a row's at each row receive. -/
theorem creds (c : Dev nD) :
    (Pipeline.launchCred (fun d => O d 0) c : sProp 𝕄)
      ⊢ iprop(cred (tallyAt (barCell c) () 7) ∗ seven (fun d => cred (tallyAt (xcell 1 c d) () (NF 1))) ∗ seven (fun d => cred (tallyAt (xcell 3 c d) () (NF 3)))) := by
  have h1 : (seven fun d => owedAt (F := F) (xcell 1 c d)) = seven (fun d => cred (tallyAt (xcell 1 c d) () (NF 1))) := by
    rw [← bigSep_seven, ← bigSep_seven]
    exact bigSep_congr fun d hd => congrArg (fun t => (cred t : sProp 𝕄)) (launch_recv1 c d (Finset.ne_of_mem_erase hd))
  have h3 : (seven fun d => owedAt (F := F) (xcell 3 c d)) = seven (fun d => cred (tallyAt (xcell 3 c d) () (NF 3))) := by
    rw [← bigSep_seven, ← bigSep_seven]
    exact bigSep_congr fun d hd => congrArg (fun t => (cred t : sProp 𝕄)) (launch_recv3 c d (Finset.ne_of_mem_erase hd))
  have hb : owedAt (F := F) (barCell c) = cred (tallyAt (barCell c) () 7) := congrArg (fun t => (cred t : sProp 𝕄)) (launch_bar c)
  rw [← h1, ← h3, ← hb]
  iintro H
  ihave H := (cred_cells (F := F) c) $$ H
  ihave H := (Entails.of_eq (cred_split (F := F) c)) $$ H
  icases H with ⟨Hb, -, ⟨-, H1⟩, -, ⟨-, H3⟩⟩
  isplitl [Hb]; · iexact Hb
  isplitl [H1]; · iexact H1
  iexact H3

end Cert.KProof
-- ==== Proof.Ends.lean ====
/-
# `k`: the kernel's obligation to the pipeline — what the body starts from, in pieces, and what it ends with, put together
-/
module

public import proofs.«01_k».proof.Proof.Body
public import proofs.«01_k».proof.Proof.Launch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven things at a time -/

/-- If each of seven things gives another, the seven give the seven others. -/
theorem seven_mono {Φ Ψ : Fin 8 → sProp 𝕄} (h : ∀ d, d ≠ 0 → Φ d ⊢ Ψ d) : seven Φ ⊢ seven Ψ := by
  rw [← bigSep_seven, ← bigSep_seven]; exact bigSep_mono fun d hd => h d (Finset.ne_of_mem_erase hd)
/-- Seven pairs are seven firsts and seven seconds. -/
theorem seven_sep (Φ Ψ : Fin 8 → sProp 𝕄) : (seven fun d => iprop(Φ d ∗ Ψ d)) = iprop(seven Φ ∗ seven Ψ) := by
  rw [← bigSep_seven, ← bigSep_seven, ← bigSep_seven]; exact bigSep_sep' _ _ _
/-- Seven things may be listed by opposite distances. -/
theorem seven_neg (Φ : Fin 8 → sProp 𝕄) : seven Φ ⊢ seven fun d => Φ (neg d) := by
  show seven Φ ⊢ iprop(Φ 7 ∗ Φ 6 ∗ Φ 5 ∗ Φ 4 ∗ Φ 3 ∗ Φ 2 ∗ Φ 1)
  dsimp only [seven]
  iintro ⟨H1, H2, H3, H4, H5, H6, H7⟩
  iframe ∗

/-- A product over two things, written out. -/
theorem bigSep_two (Φ : Fin 2 → sProp 𝕄) : bigSep Finset.univ Φ = iprop(Φ 0 ∗ Φ 1) := bigSep_univ_eq_bigSepL [0, 1] (by decide) (by decide) Φ

/-! ## Before and after the body -/

/-- The four scratch buffers, whole, at some contents. -/
def scr (c : Dev nD) : sProp 𝕄 :=
  iprop((∃ f : Vec F S4096x512 .bf16, (c : Thread nD τ).loc cc0_scratch0 ↦{fullShare} f) ∗ (∃ f : Vec F S8x512x512 .bf16, (c : Thread nD τ).loc cc0_scratch1 ↦{fullShare} f)
    ∗ (∃ f : Vec F S2x512x2048 .f32, (c : Thread nD τ).loc cc0_scratch2 ↦{fullShare} f) ∗ ∃ f : Vec F S8x128 .f32, (c : Thread nD τ).loc cc0_scratch3 ↦{fullShare} f)

/-- A device's credits at launch. -/
def credits (c : Dev nD) : sProp 𝕄 :=
  iprop(cred (tallyAt (barCell c) () 7) ∗ seven (fun d => cred (tallyAt (xcell 1 c d) () (NF 1))) ∗ seven (fun d => cred (tallyAt (xcell 3 c d) () (NF 3))))

/-- What a device enters the kernel with. -/
def start (c : Dev nD) : sProp 𝕄 :=
  iprop((∃ K, Ctx m ρ K ∗ linear c) ∗ credits c ∗ ((c : Thread nD τ).loc main_arg1 ↦{fullShare} wfull m c))
/-- The kernel's resources before the body, -/
def Φ₀ (c : Dev nD) : sProp 𝕄 := iprop(start m ρ c ∗ scr c)
/-- and after it. -/
def Φ₁ (c : Dev nD) : sProp 𝕄 :=
  iprop((semVal (barCell c) 0 ∗ ((c : Thread nD τ).loc main_arg1 ↦{fullShare} wfull m c))
    ∗ ((bigSep Finset.univ fun f : Fin 4 => bigSep Finset.univ fun j : Fin 8 => zero (F := F) f c j) ∗ wZeros c) ∗ scr c)

/-- What the body does not touch: the slot and the cells at distance zero. -/
def aside (c : Dev nD) : sProp 𝕄 := iprop((∃ f, slotPts (F := F) c 0 f) ∗ zero 0 c 0 ∗ zero 1 c 0 ∗ zero 2 c 0 ∗ zero 3 c 0)

section Steps
variable (K : Dev nD × CI → ℕ)

/-- A transfer semaphore for distance zero, never used, ends at zero. -/
theorem zero_close (c : Dev nD) (f : Fin 4) : Ctx m ρ K ⊢ iprop(atPos ER (xcell f c 0) 0 ∅ 0 -∗ |={Set.univ}=> zero f c 0) := by
  unfold Ctx
  iintro ⟨#HR, -⟩ Hat
  ihave #HI := (inv_at m ρ K (c, some (f, 0))) $$ HR
  unfold zero
  imod (Rounds.cell_close ER (Rd m ρ) (Set.mem_univ (K (c, some (f, 0)))) (fun h => h) (R := 0) (fun r _ => by
      rcases Nat.eq_zero_or_pos r with h | h
      · subst h; exact duties_x0 m ρ c f
      · exact duties_later m ρ _ r h)) $$ [Hat] with Hz
  · isplitr; · iexact HI
    iexact Hat
  imodintro; iexact Hz

/-- A duty on another device's barrier, with a slot and a row to hand over, is what a signal needs. -/
theorem sig_item (c : Dev nD) (d : Fin 8) (f : Vec F S8x512x512 .bf16) (g : Vec F S8x128 .f32) :
    iprop(dutyTok ER (barCell (peer c d)) 0 (neg d) ∗ slotPts c (neg d) f ∗ rowPts c (neg d) fullShare g) ⊢ SigItem (F := F) c d := by
  unfold SigItem
  iintro ⟨H, Hs, Hr⟩
  isplitl [H]; · iexact H
  isplitl [Hs]; · iexists f; iexact Hs
  iexists g; iexact Hr

/-- The positions of a device, family by family. -/
theorem positions (c : Dev nD) :
    (bigSep Finset.univ fun k : CI => (atPos ER (kcell (c, k)) 0 ∅ 0 : sProp 𝕄))
      = iprop(atPos ER (barCell c) 0 ∅ 0 ∗ (atPos ER (xcell 0 c 0) 0 ∅ 0 ∗ seven fun d => atPos ER (xcell 0 c d) 0 ∅ 0)
          ∗ (atPos ER (xcell 1 c 0) 0 ∅ 0 ∗ seven fun d => atPos ER (xcell 1 c d) 0 ∅ 0) ∗ (atPos ER (xcell 2 c 0) 0 ∅ 0 ∗ seven fun d => atPos ER (xcell 2 c d) 0 ∅ 0)
          ∗ (atPos ER (xcell 3 c 0) 0 ∅ 0 ∗ seven fun d => atPos ER (xcell 3 c d) 0 ∅ 0)) := by
  rw [bigSep_CI, bigSep_four, bigSep_eight, bigSep_eight, bigSep_eight, bigSep_eight]

/-- Everything in pieces. -/
theorem prepare (c : Dev nD) :
    Ctx m ρ K ⊢ iprop(linear (F := F) c -∗ credits (F := F) c -∗ ((c : Thread nD τ).loc main_arg1 ↦{fullShare} wfull m c) -∗ scr (F := F) c
      -∗ (ow (F := F) c 0 ∗ ((c : Thread nD τ).loc cc0_stg0_0 ↦{fullShare} xstg m ρ c) ∗ ∃ f, (c : Thread nD τ).loc cc0_stg1_0 ↦{fullShare} f)
      -∗ |={Set.univ}=> (bodyPre m ρ c ∗ aside c)) := by
  unfold linear credits scr payToks wZeros
  rw [positions, bigSep_eight, bigSep_eight, bigSep_eight]
  iintro #HC ⟨⟨Pb, ⟨Z0, P0⟩, ⟨Z1, P1⟩, ⟨Z2, P2⟩, ⟨Z3, P3⟩⟩, ⟨⟨-, Tb⟩, ⟨-, T0⟩, ⟨-, T2⟩⟩, Hw0, Hw1⟩ ⟨Cb, C1, C3⟩ Hw
    ⟨⟨%f0, S0⟩, ⟨%f1, S1⟩, ⟨%f2, S2⟩, ⟨%f3, S3⟩⟩ ⟨Ho, Hx, Hout⟩
  imod (zero_close m ρ K c 0) $$ HC Z0 with Z0
  imod (zero_close m ρ K c 1) $$ HC Z1 with Z1
  imod (zero_close m ρ K c 2) $$ HC Z2 with Z2
  imod (zero_close m ρ K c 3) $$ HC Z3 with Z3
  ihave S1 := (Entails.of_eq ((slots_split c f1).trans (bigSep_eight _))) $$ S1
  icases S1 with ⟨S10, S1⟩
  ihave S3 := (Entails.of_eq ((rows_split c fullShare f3).trans (bigSep_eight _))) $$ S3
  icases S3 with ⟨S30, S3⟩
  ihave S2 := (Entails.of_eq ((wsl_split c f2).trans (bigSep_two _))) $$ S2
  icases S2 with ⟨S20, S21⟩
  ihave Hw := (wSrc_halves m c).1 $$ Hw
  icases Hw with ⟨H0, H1⟩
  ihave S1 := (seven_neg (fun d => slotPts c d f1)) $$ S1
  ihave S3 := (seven_neg (fun d => rowPts c d fullShare f3)) $$ S3
  ihave S1 := (Entails.of_eq (seven_sep (fun d => slotPts c (neg d) f1) (fun d => rowPts c (neg d) fullShare f3)).symm) $$ [S1 S3]
  · isplitl [S1]; · iexact S1
    iexact S3
  ihave S1 := (Entails.of_eq (seven_sep (fun d => dutyTok ER (barCell (peer c d)) 0 (neg d)) (fun d => iprop(slotPts c (neg d) f1 ∗ rowPts c (neg d) fullShare f3))).symm) $$ [Tb S1]
  · isplitl [Tb]; · iexact Tb
    iexact S1
  ihave S1 := (seven_mono fun d _ => sig_item c d f1 f3) $$ S1
  ihave C1 := (Entails.of_eq (seven_sep (fun d => cred (tallyAt (xcell 1 c d) () (NF 1))) (fun d => atPos ER (xcell 1 c d) 0 ∅ 0)).symm) $$ [C1 P1]
  · isplitl [C1]; · iexact C1
    iexact P1
  ihave C3 := (Entails.of_eq (seven_sep (fun d => cred (tallyAt (xcell 3 c d) () (NF 3))) (fun d => atPos ER (xcell 3 c d) 0 ∅ 0)).symm) $$ [C3 P3]
  · isplitl [C3]; · iexact C3
    iexact P3
  imodintro
  unfold bodyPre aside
  isplitr [S10 Z0 Z1 Z2 Z3]
  · isplitl [Ho]; · iexact Ho
    isplitl [Hx]; · iexact Hx
    isplitl [Hout]; · iexact Hout
    isplitl [S0]; · iexists f0; iexact S0
    isplitl [S30]; · iexists f3; iexact S30
    isplitl [S1]; · iexact S1
    isplitl [Cb Pb]; · isplitl [Cb] <;> iassumption
    isplitl [T0]; · iexact T0
    isplitl [T2]; · iexact T2
    isplitl [C1]; · unfold WaitItem; iexact C1
    isplitl [C3]; · unfold WaitItem; iexact C3
    isplitl [P0]; · iexact P0
    isplitl [P2]; · iexact P2
    unfold wFree
    isplitl [S20 Hw0 H0]
    · isplitl [S20]; · iexists f2; iexact S20
      isplitl [Hw0] <;> iassumption
    · isplitl [S21]; · iexists f2; iexact S21
      isplitl [Hw1] <;> iassumption
  · isplitl [S10]; · iexists f1; iexact S10
    iframe ∗

end Steps

/-- What is left of a family at the end is its seven payloads and its seven semaphores at zero. -/
theorem fin_split (f : Fin 4) (c : Dev nD) : seven (fin m ρ f c) = iprop((seven fun d => famPay m ρ f.val c d) ∗ seven (zero (F := F) f c)) := by
  unfold fin; exact seven_sep _ _

/-- Everything put together again. -/
theorem finish (c : Dev nD) :
    iprop(bodyPost m ρ c ∗ aside c)
      ⊢ iprop(Φ₁ m c ∗ ow (F := F) c 21 ∗ ((c : Thread nD τ).loc cc0_stg0_0 ↦{fullShare} xstg m ρ c) ∗ ((c : Thread nD τ).loc cc0_stg1_0 ↦{fullShare} outv m ρ c)) := by
  unfold bodyPost aside Φ₁ scr wZeros
  rw [fin_split, fin_split, fin_split, bigSep_four, bigSep_eight, bigSep_eight, bigSep_eight, bigSep_eight]
  unfold wFree
  iintro ⟨⟨Ho, Hx, Hout, Hb, X0, R0, ⟨X, Y0⟩, ⟨S, Y1⟩, ⟨R, Y2⟩, ⟨R', Y3⟩, ⟨S20, Hw0, H0⟩, ⟨S21, Hw1, H1⟩⟩, ⟨%f1, S0⟩, Z0, Z1, Z2, Z3⟩
  ihave X := (Entails.of_eq (xs_pieces m ρ c).symm) $$ [X0 X]
  · isplitl [X0]; · iexact X0
    iexact X
  ihave S := (seven_mono (Φ := fun d => slotPts c d (XG m ρ c)) (Ψ := fun d => iprop(∃ f, slotPts (F := F) c d f)) fun d _ => by iintro H; iexists _; iexact H) $$ S
  ihave S := (Entails.of_eq (bigSep_eight (fun d => iprop(∃ f, slotPts (F := F) c d f))).symm) $$ [S0 S]
  · isplitl [S0]; · iexists f1; iexact S0
    iexact S
  ihave S := (slots_join c (XG m ρ c)) $$ S
  ihave R := (Entails.of_eq ((bigSep_eight _).symm.trans (row_leaves c 0 (AM m ρ c)).symm)) $$ [R0 R]
  · isplitl [R0]; · unfold sh; iexact R0
    iexact R
  ihave R := (Entails.of_eq ((bigSep_eight _).symm.trans (rows_split c fullShare (AM m ρ c)).symm)) $$ [R R']
  · isplitl [R]; · iexact R
    iexact R'
  ihave W := (Entails.of_eq (bigSep_two (fun s : Fin 2 => iprop(∃ f, wslPts (F := F) c s f))).symm) $$ [S20 S21]
  · isplitl [S20] <;> iassumption
  ihave W := (wsl_join c (WB m c 0)) $$ W
  ihave H := (wSrc_halves m c).2 $$ [H0 H1]
  · isplitl [H0] <;> iassumption
  isplitr [Ho Hx Hout]
  · isplitl [Hb H]; · isplitl [Hb] <;> iassumption
    isplitr [X S R W]
    · iframe ∗
    isplitl [X]; · iexists _; iexact X
    isplitl [S]; · iexact S
    isplitl [W]; · iexact W
    iexists _; iexact R
  · iframe ∗

end Cert.KProof
-- ==== Proof.Run.lean ====
/-
# `k`: the run — every execution ends, with the result array at the computed contents
-/
module

public import proofs.«01_k».proof.Proof.Ends
public import proofs.«01_k».proof.Proof.Gen.KernelIdeal.Points
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The grid's one point. -/
abbrev t₀ : Fin cfg0.N := t0_0

/-- The pipeline's data: the staged block stays, the result's block is computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outv m ρ c
  Φ t := match t with
    | ⟨0, _⟩ => Φ₀ m ρ c
    | ⟨_ + 1, _⟩ => Φ₁ m c
  q _ := fullShare
  owed t := match t with
    | ⟨0, _⟩ => O c 0
    | ⟨_ + 1, _⟩ => 0

/-- A buffer held whole at the contents `X`. -/
def stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b) ↦{fullShare} f)

/-- Before the only step the staged first operand is what the fetch brought. -/
theorem before_x (c : Dev nD) (d : _) : (dats m ρ 0 c).before (0 : Fin 2) t₀ d = xstg m ρ c := by
  unfold Dat.before; rw [if_pos (fetch0_0 t₀)]; rfl

set_option maxRecDepth 4000 in
/-- What the body of the kernel is given. -/
def obPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
set_option maxRecDepth 4000 in
/-- What the body of the kernel gives back. -/
def obPost (c : Dev nD) : sProp 𝕄 :=
  iprop(Φ₁ m c ∗ (dats m ρ 0 c).owesAt () t₀.succ ∗ stg c cc0_stg0_0 (xstg m ρ c) ∗ stg c cc0_stg1_0 (outv m ρ c))

/-- Owning a whole buffer through its reference is owning the buffer. -/
theorem owns_whole_eq (c : Dev nD) (b : Ref sig .tc) (X : Buf (Elt F) ((c : Thread nD τ).loc b)) :
    (owns (c : Thread nD τ) (Memref.whole b) fullShare X : sProp 𝕄) = stg c b X := by
  unfold owns stg; simp only [Memref.view_whole, View.read_whole, View.set_whole]

/-- The body of the kernel, given what it needs, runs and gives back what it must. -/
theorem ob_run (c : Dev nD) : obPre m ρ c ⊢ wpc c (atArgs (cc0_body (F := F))) fun _ => obPost m ρ c := by
  unfold obPre Φ₀ start stg
  iintro ⟨⟨⟨⟨%K, #HC, Hl⟩, Hcr, Hw⟩, Hs⟩, Ho, ⟨%d0, %f0, %h0, Hx⟩, ⟨%d1, %f1, -, Hout⟩⟩
  rw [before_x] at h0
  subst h0
  unfold Dat.owesAt Pipeline.owesWithin
  icases Ho with ⟨%W, %hW, HO⟩
  unfold wpc
  imod (prepare m ρ K c) $$ HC Hl Hcr Hw Hs [HO Hx Hout] with ⟨Hpre, Ha⟩
  · unfold ow
    isplitl [HO]; · iexists W; iexact HO
    isplitl [Hx]; · iexact Hx
    iexists f1; iexact Hout
  iapply (body_run m ρ K c) $$ HC Hpre
  iintro Hpost
  ihave H := (finish m ρ c) $$ [Hpost Ha]
  · isplitl [Hpost] <;> iassumption
  icases H with ⟨HΦ, Ho, Hx, Hout⟩
  unfold obPost Dat.owesAt Pipeline.owesWithin ow stg
  icases Ho with ⟨%W', HO⟩
  isplitl [HΦ]; · iexact HΦ
  isplitl [HO]
  · iexists W'; isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The kernel's obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ wp frame (wpE (defs₀ (F := F)) 𝒱₀ c none) Set.univ (atArgs (cc0_body (F := F))) (fun _ => obPost m ρ c)
  exact ob_run m ρ c

/-! ## The launch theorem's side conditions -/

/-- Every window is held with the full share. -/
theorem share_eq (c : Dev nD) (w : Fin cfg0.W) : (dats m ρ 0 c).share w = fullShare := by unfold Dat.share; split <;> rfl

/-- The rest of the scoped memory is the scratch buffers. -/
theorem scopedRest_scr (c : Dev nD) : (Pipeline.scopedRest cfg0.spec c : sProp 𝕄) = scr c := scopedRest0_eq c

/-- What a device holds at launch gives what its part of the kernel starts from. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m ρ c)
      ⊢ |={Set.univ}=> iprop(start m ρ c ∗ emp) := by
  rw [Pipeline.unscopedRestP_none, show (Pipeline.unscopedRest cfg0.spec c (fun b => m ((c : Thread nD τ).loc b)) : sProp 𝕄) = _ from unscopedRest0_eq c _]
  iintro ⟨Hw, Hlev, Hcr, -, HG⟩
  ihave Hc := (creds (F := F) c) $$ Hcr
  unfold start G' Ctx credits
  icases HG with ⟨%K, HR, Hl⟩
  imodintro
  isplitl
  · isplitl [HR Hl Hlev]
    · iexists K
      isplitl [HR Hlev]; · isplitl [HR] <;> iassumption
      iexact Hl
    isplitl [Hc]; · iexact Hc
    iexact Hw
  · iempintro

/-- What a device starts from, with the scratch buffers, is the state before the only step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_scr]
  unfold Φ₀
  iintro ⟨Hs, -, Hr⟩
  isplitl [Hs] <;> iassumption

/-- The state after the only step gives back what the launch lent. -/
theorem phi1_exit (c : Dev nD) :
    (dats m ρ 0 c).Φ (Fin.last cfg0.N)
      ⊢ iprop((unscopedSems0 c ∗ ((c : Thread nD τ).loc main_arg1 ↦{fullShare} wfull m c)) ∗ Pipeline.ownSems0 osem c ∗ Pipeline.scopedRest cfg0.spec c) := by
  rw [show (dats m ρ 0 c).Φ (Fin.last cfg0.N) = Φ₁ m c from rfl, scopedRest_scr, ownSems0_eq, unscopedSems0_eq]
  exact .refl

/-- The waits of the pipeline itself are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O c 0 _ (by fin_cases w <;> fin_cases s <;> decide)
    · show (levAts L lv : sProp 𝕄) ⊢ MayWait _ _ () 0
      rw [MayWait_zero]; iintro -; iempintro

/-! ## The run -/

/-- A window's array after the run. -/
def finalA (c : Dev nD) (w : Fin cfg0.W) : Buf (Elt F) ((cfg0.win w).arr.view.loc (c : Thread nD τ)) := (dats m ρ 0 c).arrAt w cfg0.N

/-- What a final state holds on every device: the windows' arrays at their computed contents, `w_mat` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with zero counters every weakly fair execution on the eight devices ends, each device's arrays at the
    computed contents and every semaphore counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ ((c : Thread nD τ).loc main_arg1 ↦{fullShare} wfull m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      ihave %h := SI_pointsTo_agree $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨hs, funext fun i => h i (Finset.mem_univ i)⟩
      iexact HSI)
    (hQ := fun _ h hs => ⟨fun c => ⟨(h c).1, (h c).2.2.2⟩, sem_eq_zero hs fun c => (h c).2.2.1⟩)

/-- The block of `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof
-- ==== Proof.Frames.lean ====
/-
# `k`: the frames of the kernel, on real float formats and on the extended reals
-/
module

public import proofs.«01_k».proof.Defs
public import proofs.«01_k».proof.Proof.Run
public import proofs.«01_k».proof.Proof.Gen.Kernel
public import Idealize.ShloMosaic.Lib.StableHlo.RunHlo

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At any float values: every execution ends, the arguments unchanged, every counter zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun r h => ⟨fun c => ⟨((h.1 c).1 (0 : Fin 2)).trans (finalA_x m ρ c), (h.1 c).2⟩, h.2⟩

/-- The idealized kernel ends on every input, with its arguments unchanged and every semaphore at zero. -/
theorem frame_KernelIdeal : Cert.quiescent_KernelIdeal (hKernelIdeal := Cert.KernelIdeal.Gen.facts) := fun m g _ => frame_run m g

section
set_option maxRecDepth 65536

/-- The two printings of the kernel have the same body table, -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl
/-- and so the same table of regions. -/
theorem defs_eq : Cert.Kernel.defs (F := F) = Cert.KernelIdeal.defs (F := F) :=
  congrArg (Pipeline.defs (Cert.KernelIdeal.pcfgs (F := F))) defs₀_eq

/-- The kernel as compiled ends on every input, with its arguments unchanged and every semaphore at zero. -/
theorem frame_Kernel : Cert.quiescent_Kernel (hKernel := Cert.Kernel.Gen.facts) := fun m g _ => by
  have h := frame_run (F := Bits) m g
  rw [← defs_eq] at h
  exact h

end

end Cert.KProof
-- ==== Proof.Product.lean ====
/-
# `k` — what a device's product is

Over the extended reals the sum device `c` forms, block by block in the order `c, c - 1, …, c - 7`, is row block `c` of the
product of the whole matrices: narrowing changes no value and the order of a sum does not matter.
-/
module

public import proofs.«01_k».proof.Proof.Common
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.KProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-- The whole left operand's shape. -/
abbrev SX : Shape := ⟨2, ![4096, 4096]⟩

/-- The left operand is cut in eight along its columns, the result in eight along its rows. -/
theorem tilesX : Layout.Tiles S4096x512 SX 1 8 := by decide
/-- The result splits into eight row blocks. -/
theorem tilesY : Layout.Tiles S512x2048 S4096x2048 0 8 := by decide

/-- Entry (i, j) of the product of the whole matrices. -/
def prod (X : FVec Ideal SX .f32) (W : FVec Ideal S4096x2048 .f32) (i : Fin 4096) (j : Fin 2048) : EReal :=
  ∑ k : Fin 4096, X (ix2 i k) * W (ix2 k j)

/-- Position `i` of block `b` among 4096. -/
def at8 (b : Fin 8) (i : Fin 512) : Fin 4096 := ⟨512 * b.val + i.val, by omega⟩

/-- A sum over 4096 positions, block by block. -/
theorem sum_blocks (f : Fin 4096 → EReal) : ∑ k, f k = ∑ b : Fin 8, ∑ i : Fin 512, f (at8 b i) := by
  rw [← Fintype.sum_prod_type', ← Equiv.sum_comp (finProdFinEquiv (m := 8) (n := 512)) f]
  refine Finset.sum_congr rfl fun p _ => congrArg f (Fin.ext ?_)
  show p.2.val + 512 * p.1.val = 512 * p.1.val + p.2.val
  omega

/-- The block of `x` staged on a device is the device's whole argument. -/
theorem xstg_apply (c : Dev nD) (i : Fin 4096) (k : Fin 512) : xstg m ρ c (ix2 i k) = m ((c : Thread nD τ).loc main_arg0) (ix2 i k) := by
  unfold xstg
  rw [View.read_apply]
  show m _ _ = m _ _
  congr 1
  funext a
  apply Fin.ext
  match a with
  | ⟨0, _⟩ => show win0_0.index t0_0 0 * 4096 + 1 * i.val = i.val; rw [show win0_0.index t0_0 0 = 0 from by decide]; omega
  | ⟨1, _⟩ => show win0_0.index t0_0 1 * 512 + 1 * k.val = k.val; rw [show win0_0.index t0_0 1 = 0 from by decide]; omega

/-- Row block `j` of a device's narrowed columns, at an entry. -/
theorem xblk_apply (c : Dev nD) (j : Fin 8) (i k : Fin 512) :
    xblk m ρ c j (ix2 i k) = (m ((c : Thread nD τ).loc main_arg0) (ix2 (at8 j i) k) : EReal) := by
  rw [← xstg_apply m ρ c (at8 j i) k]
  unfold xblk xs k0_pay1
  rw [View.read_apply]
  simp only [shapeCast_self]
  show xstg m ρ c _ = xstg m ρ c _
  congr 1
  funext a
  apply Fin.ext
  match a with
  | ⟨0, _⟩ => show 512 * j.val + 1 * i.val = 512 * j.val + i.val; omega
  | ⟨1, _⟩ => show 0 + 1 * k.val = k.val; omega

/-- Row block `j` of `w_mat`, at an entry. -/
theorem wblk_apply (c : Dev nD) (j : Fin 8) (k : Fin 512) (l : Fin 2048) :
    wblk m c j (ix2 k l) = m ((c : Thread nD τ).loc main_arg1) (ix2 (at8 j k) l) := by
  unfold wblk wfull
  rw [View.read_apply]
  show m _ _ = m _ _
  congr 1
  funext a
  apply Fin.ext
  match a with
  | ⟨0, _⟩ => show 512 * j.val + 1 * k.val = 512 * j.val + k.val; omega
  | ⟨1, _⟩ => show 0 + 1 * l.val = l.val; omega

/-- One step adds one block's products. -/
theorem stepY_apply (y : FVec Ideal S512x2048 .f32) (a : FVec Ideal S512x512 .bf16) (w : FVec Ideal S512x2048 .f32) (i : Fin 512) (l : Fin 2048) :
    (stepY y a w (ix2 i l) : EReal) = y (ix2 i l) + ∑ k : Fin 512, (a (ix2 i k) : EReal) * w (ix2 k l) := by
  unfold stepY
  show y (ix2 i l) + FloatOps.matmul (DotDims.plain 512 512 2048) none a w (constant S512x2048 .f32 0x00000000#32) (ix2 i l) = _
  rw [Ideal.matmul_plain_apply]
  show y (ix2 i l) + (Ideal.ofBits .f32 0x00000000#32 + _) = _
  rw [Ideal.ofBits_zero_f32, zero_add]

/-- The devices counted backwards from `c`: each once. -/
def backE (c : Dev nD) : Fin 8 ≃ Dev nD :=
  Equiv.ofBijective (back c) (by revert c; decide)

section Value
variable (X : FVec Ideal SX .f32) (W : FVec Ideal S4096x2048 .f32)
  (hX : ∀ c : Dev nD, m ((c : Thread nD τ).loc main_arg0) = Layout.block S4096x512 SX 1 8 c X tilesX)
  (hW : ∀ c : Dev nD, m ((c : Thread nD τ).loc main_arg1) = W)
include hX hW

/-- The product of the block received from device `b` with block `b` of `w_mat`. -/
theorem block_sum (c b : Dev nD) (i : Fin 512) (l : Fin 2048) :
    ∑ k : Fin 512, (xblk m ρ b c (ix2 i k) : EReal) * wblk m c b (ix2 k l)
      = ∑ k : Fin 512, X (ix2 (at8 c i) (at8 b k)) * W (ix2 (at8 b k) l) := by
  refine Finset.sum_congr rfl fun k _ => ?_
  rw [xblk_apply, wblk_apply, hX, hW]
  refine congrArg (· * W (ix2 (at8 b k) l)) ?_
  show X _ = X _
  congr 1
  funext a
  apply Fin.ext
  match a with
  | ⟨0, _⟩ => rfl
  | ⟨1, _⟩ => show b.val * 512 + k.val = 512 * b.val + k.val; omega

/-- After `n` blocks the sum holds the first `n` blocks' products. -/
theorem Y_partial (c : Dev nD) (i : Fin 512) (l : Fin 2048) (n : ℕ) :
    (Y m ρ c n (ix2 i l) : EReal)
      = ∑ d ∈ Finset.range n, ∑ k : Fin 512, X (ix2 (at8 c i) (at8 (back c (Fin.ofNat 8 d)) k)) * W (ix2 (at8 (back c (Fin.ofNat 8 d)) k) l) := by
  induction n with
  | zero =>
    rw [Finset.sum_range_zero]
    exact Ideal.ofBits_zero_f32
  | succ n ih =>
    rw [Finset.sum_range_succ, ← ih, ← block_sum m ρ X W hX hW c (back c (Fin.ofNat 8 n)) i l]
    exact stepY_apply _ _ _ i l

/-- **Device `c`'s sum of all eight blocks is row block `c` of the product of the whole matrices.** -/
theorem Y_eq (c : Dev nD) (i : Fin 512) (l : Fin 2048) : (Y m ρ c 8 (ix2 i l) : EReal) = prod X W (at8 c i) l := by
  rw [Y_partial m ρ X W hX hW, Finset.sum_range]
  unfold prod
  rw [sum_blocks, ← Equiv.sum_comp (backE c) fun b => ∑ k : Fin 512, X (ix2 (at8 c i) (at8 b k)) * W (ix2 (at8 b k) l)]
  refine Finset.sum_congr rfl fun d _ => ?_
  rw [show Fin.ofNat 8 d.val = d from Fin.ext (Nat.mod_eq_of_lt d.isLt)]
  rfl

end Value

end Cert.KProof
-- ==== Proof.Maxima.lean ====
/-
# `k` — what the scale is

Over the extended reals the scale a device computes — the largest magnitude in its block, the eight devices' maxima
gathered, the largest of those divided by 127 — is the largest magnitude in the product of the whole matrices, divided by
127. A largest value is compared through the bounds it has: it is at most `z` exactly when every entry is.
-/
module

public import proofs.«01_k».proof.Proof.Product
public import Idealize.ShloMosaic.PureOps.Ideal.Laws

@[expose] public section

noncomputable section

namespace Cert.KProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-- The value every maximum starts from. -/
def low : EReal := Ideal.ofBits .f32 0xFF800000#32

/-- A kernel's maximum over everything, bounded. -/
theorem max_all_le {s : Shape} {axes : List (Fin s.rank)} (x : FVec Ideal s .f32) (h : s.Reduces axes S1) (hφ : FKind.Formats .f32)
    (hacc : (0xFF800000#32 : BitVec 32) = FKind.maximumf.neutral .f32 hφ) (j : S1.Idx) (z : EReal) :
    (multiReduction .maximumf axes S1 x 0xFF800000#32 h hφ hacc j : EReal) ≤ z ↔ low ≤ z ∧ ∀ i, (x i : EReal) ≤ z := by
  have hd : ∀ i, h.drop i = j := fun i => funext fun b => Fin.ext (by
    have h1 : S1.size b = 1 := by revert b; decide
    have := (h.drop i b).isLt; have := (j b).isLt; omega)
  rw [multiReduction_maximumf_eq_fold]
  refine (Finset.fold_max_le (b := low) (f := x) z).trans ?_
  simp [hd]

/-- A reshaped array has the same bounds. -/
theorem shapeCast_le {s t : Shape} (x : FVec Ideal s .f32) (h : s.ShapeCasts t) (z : EReal) :
    (∀ i, (shapeCast t x h i : EReal) ≤ z) ↔ ∀ i, (x i : EReal) ≤ z := by
  refine ⟨fun H i => ?_, fun H i => H _⟩
  obtain ⟨k, hk⟩ := (Shape.reshapeEquiv h).surjective i
  have := H k
  rw [← hk]
  exact this

/-- The largest magnitude of a block. -/
def blockMax (y : FVec Ideal S512x2048 .f32) : FVec Ideal S1 .f32 :=
  multiReduction .maximumf [1, 2] S1 (shapeCast S1x512x2048 (absf y) shapeCasts_S512x2048_S1x512x2048) 0xFF800000#32
    reduces_S1x512x2048_S1 (.inl rfl) rfl

/-- A block's largest magnitude is bounded exactly when the starting value and all magnitudes in the block are. -/
theorem blockMax_le (y : FVec Ideal S512x2048 .f32) (j : S1.Idx) (z : EReal) :
    (blockMax y j : EReal) ≤ z ↔ low ≤ z ∧ ∀ k, (absf y k : EReal) ≤ z := by
  unfold blockMax
  exact (max_all_le _ _ _ _ j z).trans (and_congr_right fun _ => shapeCast_le _ _ z)

/-- A row of maxima holds one value throughout. -/
theorem row_apply (v : FVec Ideal S1 .f32) (i : S1x128.Idx) : ∃ j, k0_pay12 v i = v j := ⟨_, rfl⟩

/-- A device's row of maxima is its block's largest magnitude, repeated. -/
theorem amrow_def (y : FVec Ideal S512x2048 .f32) : amrow y = k0_pay12 (blockMax y) := rfl

/-- Every entry of a device's row of maxima is its block's largest magnitude. -/
theorem amrow_le (y : FVec Ideal S512x2048 .f32) (i : S1x128.Idx) (z : EReal) :
    (amrow y i : EReal) ≤ z ↔ low ≤ z ∧ ∀ k, (absf y k : EReal) ≤ z := by
  obtain ⟨j, e⟩ := row_apply (blockMax y) i
  rw [amrow_def, e]
  exact blockMax_le y j z

/-- The largest entry of the gathered maxima. -/
def gridMax (A : FVec Ideal S8x128 .f32) : FVec Ideal S1 .f32 :=
  multiReduction .maximumf [1, 2] S1 (shapeCast S1x8x128 A shapeCasts_S8x128_S1x8x128) 0xFF800000#32 reduces_S1x8x128_S1 (.inl rfl) rfl

/-- The largest gathered maximum is bounded exactly when the starting value and all gathered maxima are. -/
theorem gridMax_le (A : FVec Ideal S8x128 .f32) (j : S1.Idx) (z : EReal) : (gridMax A j : EReal) ≤ z ↔ low ≤ z ∧ ∀ i, (A i : EReal) ≤ z := by
  unfold gridMax
  exact (max_all_le _ _ _ _ j z).trans (and_congr_right fun _ => shapeCast_le _ _ z)

/-- The same as a number. -/
def top (A : FVec Ideal S8x128 .f32) : EReal :=
  extractAt ![0, 0, 0] (shapeCast S1x1x1 (gridMax A) shapeCasts_S1_S1x1x1) inpos_S1x1x1_p0_0_0

/-- The number is an entry of the largest gathered maximum. -/
theorem top_apply (A : FVec Ideal S8x128 .f32) : ∃ j, top A = gridMax A j := ⟨_, rfl⟩

/-- The number is bounded exactly when the starting value and all gathered maxima are. -/
theorem top_le (A : FVec Ideal S8x128 .f32) (z : EReal) : top A ≤ z ↔ low ≤ z ∧ ∀ i, (A i : EReal) ≤ z := by
  obtain ⟨j, e⟩ := top_apply A
  rw [e]
  exact gridMax_le A j z

/-- Row `d` of the gathered maxima is the row of the device `d` places back. -/
theorem AM_apply (c : Dev nD) (i : S8x128.Idx) : ∃ k, AM m ρ c i = amrow (Y m ρ (back c (i 0)) 8) k :=
  ⟨Fin.cons (0 : Fin 1) (fun a => i a.succ), by unfold AM amv; exact Eq.refl _⟩

/-- The scale is that value over 127. -/
theorem scale_eq (A : FVec Ideal S8x128 .f32) : (k0_pay13 (F := Ideal) A : EReal) = Ideal.div (top A) (Ideal.ofBits .f32 0x42FE0000#32) := rfl

/-- Every position among 4096 is a position of one of the eight blocks. -/
theorem exists_at8 (r : Fin 4096) : ∃ (e : Fin 8) (i : Fin 512), at8 e i = r :=
  ⟨⟨r.val / 512, by omega⟩, ⟨r.val % 512, by omega⟩, Fin.ext (by show 512 * (r.val / 512) + r.val % 512 = r.val; omega)⟩

section Value
variable (X : FVec Ideal SX .f32) (W : FVec Ideal S4096x2048 .f32)
  (hX : ∀ c : Dev nD, m ((c : Thread nD τ).loc main_arg0) = Layout.block S4096x512 SX 1 8 c X tilesX)
  (hW : ∀ c : Dev nD, m ((c : Thread nD τ).loc main_arg1) = W)
include hX hW

/-- **The largest value device `c` gathers is bounded exactly by the bounds of every magnitude in the whole product.** -/
theorem top_AM_le (c : Dev nD) (z : EReal) :
    top (AM m ρ c) ≤ z ↔ low ≤ z ∧ ∀ (r : Fin 4096) (l : Fin 2048), (FloatOps.absf (F := Ideal) (φ := .f32) (prod X W r l) : EReal) ≤ z := by
  rw [top_le]
  refine and_congr_right fun hz => ⟨fun H r l => ?_, fun H i => ?_⟩
  · obtain ⟨e, i, rfl⟩ := exists_at8 r
    obtain ⟨d, rfl⟩ := (backE c).surjective e
    obtain ⟨k, hk⟩ := AM_apply m ρ c (ix2 d (0 : Fin 128))
    have h := H (ix2 d (0 : Fin 128))
    rw [hk] at h
    have h' := ((amrow_le _ _ z).mp h).2 (ix2 i l)
    have hy := Y_eq m ρ X W hX hW (back c d) i l
    show (FloatOps.absf (F := Ideal) (φ := .f32) (prod X W (at8 (back c d) i) l) : EReal) ≤ z
    rw [← hy]
    exact h'
  · obtain ⟨k, hk⟩ := AM_apply m ρ c i
    rw [hk]
    refine (amrow_le _ _ z).mpr ⟨hz, fun k => ?_⟩
    rw [eq_ix2 k]
    have hy := Y_eq m ρ X W hX hW (back c (i 0)) (k 0) (k 1)
    have h := H (at8 (back c (i 0)) (k 0)) (k 1)
    rw [← hy] at h
    exact h

end Value

end Cert.KProof
-- ==== Proof.Reference.lean ====
/-
# `k` — what the reference computes

The reference's result, as a function of the whole matrices `X` and `W`, read at an entry: the product's entry divided by
the scale, rounded, clipped to [-127, 127], multiplied by the scale; the scale the largest magnitude of the product over 127.
-/
module

public import proofs.«01_k».proof.Proof.Maxima
public import proofs.«01_k».proof.Proof.Gen.ReferenceIdeal.Run

@[expose] public section

noncomputable section

namespace Cert.KProof

open Cert.KernelIdeal Cert.KernelIdeal.Gen

open Idealize.ShloMosaic
open Idealize.ShloMosaic.TcCoe
open Idealize.ShloMosaic.ValueIdx
open scoped BigOperators

variable (X : FVec Ideal SX .f32) (W : FVec Ideal S4096x2048 .f32)

/-- The whole product, as the reference computes it. -/
def refProd : FVec Ideal S4096x2048 .f32 :=
  Host.dotGeneral Cert.ReferenceIdeal.dot_S4096x4096_S4096x2048_S4096x2048_1_0_0_1_n_n none X W

/-- The largest magnitude of it. -/
def refTop : FVec Ideal S_ .f32 :=
  Host.reduce FloatOps.maximumf (Host.absf (refProd X W)) (constant S_ .f32 0xFF800000#32) Cert.ReferenceIdeal.Gen.reducesTo_S4096x2048_S_d0_1 Cert.ReferenceIdeal.Gen.h_S_

/-- The scale. -/
def refScale : FVec Ideal S_ .f32 := Host.divf (refTop X W) (constant S_ .f32 0x42FE0000#32)

/-- A number spread over the result's shape. -/
abbrev spread (v : FVec Ideal S_ .f32) : FVec Ideal S4096x2048 .f32 := broadcastInDim S4096x2048 ![] Cert.ReferenceIdeal.Gen.bcast_S_S4096x2048 v

/-- The reference's result. -/
def refOut : FVec Ideal S4096x2048 .f32 :=
  mulf (minimumf (spread (id (constant S_ .f32 0x42FE0000#32))) (maximumf (spread (id (constant S_ .f32 0xC2FE0000#32)))
    (Host.roundeven (Host.divf (refProd X W) (spread (refScale X W)))))) (spread (refScale X W))

/-- One entry quantised at a scale and scaled back. -/
def quant (y s : EReal) : EReal :=
  min (Ideal.ofBits .f32 0x42FE0000#32) (max (Ideal.ofBits .f32 0xC2FE0000#32) (Ideal.liftRound Ideal.roundHalfEven (Ideal.div y s))) * s

/-- An entry of the reference's product is the sum over the contracted index. -/
theorem refProd_apply (r : Fin 4096) (l : Fin 2048) : (refProd X W (ix2 r l) : EReal) = prod X W r l :=
  StackMember.dotGeneral_plain_apply (m := 4096) (n := 2048) (k := 4096) none X W r l

/-- The reference's largest magnitude, bounded. -/
theorem refTop_le (j : S_.Idx) (z : EReal) :
    (refTop X W j : EReal) ≤ z ↔ low ≤ z ∧ ∀ (r : Fin 4096) (l : Fin 2048), (FloatOps.absf (F := Ideal) (φ := .f32) (prod X W r l) : EReal) ≤ z := by
  unfold refTop
  rw [Host.reduce_eq_fold]
  refine (Finset.fold_max_le (b := low) (f := fun i => (FloatOps.absf (F := Ideal) (φ := .f32) (refProd X W i) : EReal)) z).trans ?_
  refine and_congr_right fun _ => ⟨fun H r l => ?_, fun H i _ => ?_⟩
  · rw [← refProd_apply]
    exact H _ (Finset.mem_filter.mpr ⟨Finset.mem_univ _, funext fun b => b.elim0⟩)
  · rw [eq_ix2 i]
    have hp := refProd_apply X W (i 0) (i 1)
    have h := H (i 0) (i 1)
    rw [← hp] at h
    exact h

/-- The reference's result at an entry. -/
theorem refOut_apply (r : Fin 4096) (l : Fin 2048) :
    (refOut X W (ix2 r l) : EReal) = quant (prod X W r l) (Ideal.div (refTop X W ix0) (Ideal.ofBits .f32 0x42FE0000#32)) := by
  rw [← refProd_apply]
  have e : ∃ j j', (refOut X W (ix2 r l) : EReal) = min (Ideal.ofBits .f32 0x42FE0000#32) (max (Ideal.ofBits .f32 0xC2FE0000#32)
      (Ideal.liftRound Ideal.roundHalfEven (Ideal.div (refProd X W (ix2 r l)) (Ideal.div (refTop X W j) (Ideal.ofBits .f32 0x42FE0000#32)))))
      * (Ideal.div (refTop X W j') (Ideal.ofBits .f32 0x42FE0000#32)) := ⟨_, _, rfl⟩
  obtain ⟨j, j', e⟩ := e
  rw [e, eq_ix0 j, eq_ix0 j']
  rfl

end Cert.KProof
-- ==== Proof.Equation.lean ====
/-
# `k` — the equation

Device `c`'s result is row block `c` of the reference's.
-/
module

public import proofs.«01_k».proof.Proof.Reference

@[expose] public section

noncomputable section

namespace Cert.KProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-- A device's result at an entry: its product's entry quantised at the gathered scale. -/
theorem outv_apply (c : Dev nD) (i : Fin 512) (l : Fin 2048) :
    (outv m ρ c (ix2 i l) : EReal) = quant (Y m ρ c 8 (ix2 i l)) (Ideal.div (top (AM m ρ c)) (Ideal.ofBits .f32 0x42FE0000#32)) := rfl

/-- **Device `c`'s result is row block `c` of the reference's result.** -/
theorem outv_eq (X : FVec Ideal SX .f32) (W : FVec Ideal S4096x2048 .f32)
    (hX : ∀ c : Dev nD, m ((c : Thread nD τ).loc main_arg0) = Layout.block S4096x512 SX 1 8 c X tilesX)
    (hW : ∀ c : Dev nD, m ((c : Thread nD τ).loc main_arg1) = W) (c : Dev nD) :
    outv m ρ c = Layout.block S512x2048 S4096x2048 0 8 c (refOut X W) tilesY := by
  have et : top (AM m ρ c) = refTop X W ix0 :=
    eq_of_forall_ge_iff fun z => (top_AM_le m ρ X W hX hW c z).trans (refTop_le X W ix0 z).symm
  have he : ∀ (i : Fin 512) (l : Fin 2048), (outv m ρ c (ix2 i l) : EReal) = refOut X W (ix2 (at8 c i) l) := fun i l => by
    rw [outv_apply, refOut_apply, et, Y_eq m ρ X W hX hW]
  funext i
  rw [eq_ix2 i]
  refine (he (i 0) (i 1)).trans ?_
  have ei : (ix2 (at8 c (i 0)) (i 1) : S4096x2048.Idx) = tilesY.idx c (ix2 (i 0) (i 1)) := by
    funext a
    apply Fin.ext
    match a with
    | ⟨0, _⟩ => show 512 * c.val + (i 0).val = c.val * 512 + (i 0).val; omega
    | ⟨1, _⟩ => rfl
  exact congrArg (refOut X W) ei

end Cert.KProof
-- ==== Proof.Output.lean ====
/-
# `k` — what the result array holds

The one write-back copies the whole staging block, so the result array ends holding what the body left there.
-/
module

public import proofs.«01_k».proof.Proof.Run
public import proofs.«01_k».proof.Proof.Gen.KernelIdeal.Points
public import Idealize.ShloMosaic.Lib.Pipeline.Value
public import Idealize.ShloMosaic.Lib.ValueIdxCore

@[expose] public section

noncomputable section

namespace Cert.KProof

open Cert.KernelIdeal Cert.KernelIdeal.Gen

open Idealize.ShloMosaic
open Idealize.ShloMosaic.TcCoe
open Idealize.ShloMosaic.ValueIdx
open scoped BigOperators

variable {F : FTy → Type} [FloatOps F]
variable (m : (ℓ : Loc nD τ sig) → Buf (Elt F) ℓ) (ρ : Dev nD → PrngReg)

/-- What the write-back moves is the whole of the block the body left. -/
theorem flushed_out (c : Dev nD) (t : Fin cfg0.N) :
    (dats m ρ 0 c).flushed (1 : Fin 2) t = ((cfg0.win (1 : Fin 2)).blk t).view.read (Elt F) (outv m ρ c) := by
  rw [fin_N0 t]
  have hz : (fun a => win0_1.index t0_0 a * main_v1.ty.shape.size a) = fun _ => 0 := funext fun a => by revert a; decide
  exact (Memref.read_access_unit_zero (Elt F) main_v1 hz (fun a => by rw [congrFun hz a]; simp) (outv m ρ c)).symm

/-- **Device `c`'s result array ends holding its block of the result.** -/
theorem finalA_out (c : Dev nD) : finalA m ρ c (1 : Fin 2) = outv m ρ c :=
  (dats m ρ 0 c).arrAt_eq_of_cover (1 : Fin 2) (outv m ρ c) (fun t _ => flushed_out m ρ c t) fun i =>
    ⟨t0_0, flush0_1 t0_0, by
      show i ∈ ((View.whole main_v1).slice (win0_1.rect t0_0)).set
      rw [View.set_slice_whole, Rect.mem_set_unit]
      intro a
      have h0 : (i 0 : Nat) < 512 := (i 0).isLt
      have h1 : (i 1 : Nat) < 2048 := (i 1).isLt
      match a with
      | ⟨0, _⟩ => show win0_1.index t0_0 0 * 512 ≤ (i 0 : Nat) ∧ (i 0 : Nat) < win0_1.index t0_0 0 * 512 + 512
                  rw [show win0_1.index t0_0 0 = 0 from by decide]; omega
      | ⟨1, _⟩ => show win0_1.index t0_0 1 * 2048 ≤ (i 1 : Nat) ∧ (i 1 : Nat) < win0_1.index t0_0 1 * 2048 + 2048
                  rw [show win0_1.index t0_0 1 = 0 from by decide]; omega⟩

end Cert.KProof
-- ==== Proof.Algebraic.lean ====
/-
# `k` — the value claim

The kernel's run and the reference's run, side by side: device `c`'s result is block `c` of the reference's.
-/
module

public import proofs.«01_k».proof.Defs
public import proofs.«01_k».proof.Proof.Equation
public import proofs.«01_k».proof.Proof.Output
public import Idealize.ShloMosaic.Lib.StableHlo.RunHlo
public import Idealize.ShloMosaic.Lib.Quiescent

@[expose] public section

noncomputable section

namespace Cert.KProof

open Cert.KernelIdeal Cert.KernelIdeal.Gen

open Idealize.ShloMosaic
open Idealize.ShloMosaic.TcCoe
open Idealize.ShloMosaic.ValueIdx
open scoped BigOperators

/-- The reference's frame: it ends, its arguments unchanged, no counter left over. -/
theorem frame_ReferenceIdeal : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems rfl r.2⟩

/-- **On corresponding arguments every device's result is its block of the reference's result, over the extended reals.** -/
theorem algebraic_main : Cert.algebraic_KernelIdeal_ReferenceIdeal (hKernelIdeal := Cert.KernelIdeal.Gen.facts)
    (hReferenceIdeal := Cert.ReferenceIdeal.Gen.facts) := fun m g m' g' _ hm =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    θ_run_mono (run_main m g) fun r h c =>
      ⟨((h.1 c).1 (1 : Fin 2)).trans ((finalA_out m g c).trans (outv_eq m g _ _ (fun d => (hm d).1) (fun d => (hm d).2) c)),
        ((h.1 c).1 (0 : Fin 2)).trans (finalA_x m g c), (h.1 c).2⟩,
    θ_run_mono (Cert.ReferenceIdeal.Value.run (F := Ideal) m' g') fun r h => h 0⟩

end Cert.KProof
-- ==== Proof.lean ====
/-
# `k`: the certificate

Five claims: the kernel leaves its arguments as they were and every counter at zero, on real float formats and over the
extended reals; so does the reference; the idealised kernel is the kernel; and over the extended reals every device's
result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    Cert.KProof.frame_Kernel, Cert.KProof.frame_KernelIdeal, Cert.KProof.frame_ReferenceIdeal, trivial, Cert.KProof.algebraic_main⟩

end Cert.Proof

end
